-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 1]⟩ ⟨2, ![2048, 1]⟩ (Layout.meshBlock [2, 2] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 1024, 2048]⟩ ⟨3, ![4, 1024, 2048]⟩ (Layout.meshBlock [2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 2048, 1024]⟩ ⟨3, ![4, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x1 : Shape := ⟨2, ![1024, 1]⟩
abbrev S2x1024x2048 : Shape := ⟨3, ![2, 1024, 2048]⟩
abbrev S2x2048x1024 : Shape := ⟨3, ![2, 2048, 1024]⟩
abbrev S512x1024 : Shape := ⟨2, ![512, 1024]⟩
abbrev S512x1 : Shape := ⟨2, ![512, 1]⟩
abbrev S1024x2048 : Shape := ⟨2, ![1024, 2048]⟩
abbrev S2048x1024 : Shape := ⟨2, ![2048, 1024]⟩
abbrev S7 : Shape := ⟨1, ![7]⟩
abbrev S2 : Shape := ⟨1, ![2]⟩
abbrev S_ : Shape := ⟨0, ![]⟩
abbrev S1 : Shape := ⟨1, ![1]⟩
abbrev S256x1024 : Shape := ⟨2, ![256, 1024]⟩
abbrev S1x1024x2048 : Shape := ⟨3, ![1, 1024, 2048]⟩
abbrev S1x2048x1024 : Shape := ⟨3, ![1, 2048, 1024]⟩
abbrev S256x1 : Shape := ⟨2, ![256, 1]⟩
abbrev S256x2048 : Shape := ⟨2, ![256, 2048]⟩

abbrev nBuf : Space → Nat
  | .hbm => 5
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1, .i32⟩
  | .hbm, ⟨2, _⟩ => ⟨S2x1024x2048, .f32⟩
  | .hbm, ⟨3, _⟩ => ⟨S2x2048x1024, .f32⟩
  | .hbm, ⟨4, _⟩ => ⟨S1024x1024, .f32⟩
  | .local _ .vmem, ⟨0, _⟩ => ⟨S1024x1024, .f32⟩
  | .local _ .vmem, ⟨1, _⟩ => ⟨S1024x1, .i32⟩
  | .local _ .vmem, ⟨2, _⟩ => ⟨S1024x1024, .f32⟩
  | .local _ .vmem, ⟨3, _⟩ => ⟨S512x1024, .bf16⟩
  | .local _ .vmem, ⟨4, _⟩ => ⟨S512x1024, .bf16⟩
  | .local _ .vmem, ⟨5, _⟩ => ⟨S512x1, .i32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2x1024x2048, .bf16⟩
  | .local _ .vmem, ⟨11, _⟩ => ⟨S2x2048x1024, .bf16⟩
  | .local _ .vmem, ⟨12, _⟩ => ⟨S1024x2048, .f32⟩
  | .local _ .vmem, ⟨13, _⟩ => ⟨S2048x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v17 : BitVec 32 := Scalar.muli v5 c512_i32
  let c0_i32_17 : BitVec 32 := 0#32
  ![v17.toNat, 0]
def k0_dev3 (d0 : Dev nD) : Nat :=
  let c0_i32_15 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_14 : BitVec 32 := 2#32
  let v18 : BitVec 32 := Scalar.muli v6 c2_i32_14
  let v19 : BitVec 32 := Scalar.addi c0_i32_15 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v20 : BitVec 32 := Scalar.muli v5 c1_i32_16
  let v21 : BitVec 32 := Scalar.addi v19 v20
  v21.toNat
def k0_off2 (d0 : Dev nD) (c0_i32_19 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_18 : BitVec 32 := 512#32
  let v27 : BitVec 32 := Scalar.muli v5 c512_i32_18
  let v28 : BitVec 32 := Scalar.addi v27 c0_i32_19
  let v29 : Index := Scalar.indexCast v28
  let c0 : Index := 0#32
  ![v29.toNat, 0]
def k0_dev4 (d0 : Dev nD) : Nat :=
  let c0_i32_25 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_24 : BitVec 32 := 2#32
  let v36 : BitVec 32 := Scalar.muli v6 c2_i32_24
  let v37 : BitVec 32 := Scalar.addi c0_i32_25 v36
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_26 : BitVec 32 := 1#32
  let v38 : BitVec 32 := Scalar.muli v5 c1_i32_26
  let v39 : BitVec 32 := Scalar.addi v37 v38
  v39.toNat
def k0_dev5 (d0 : Dev nD) : Nat :=
  let c0_i32_37 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_36 : BitVec 32 := 2#32
  let v55 : BitVec 32 := Scalar.muli v6 c2_i32_36
  let v56 : BitVec 32 := Scalar.addi c0_i32_37 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v57 : BitVec 32 := Scalar.muli v5 c1_i32_38
  let v58 : BitVec 32 := Scalar.addi v56 v57
  v58.toNat
def k0_dev6 (d0 : Dev nD) : Nat :=
  let c0_i32_152 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_151 : BitVec 32 := 2#32
  let v182 : BitVec 32 := Scalar.muli v6 c2_i32_151
  let v183 : BitVec 32 := Scalar.addi c0_i32_152 v182
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_153 : BitVec 32 := 1#32
  let v184 : BitVec 32 := Scalar.muli v5 c1_i32_153
  let v185 : BitVec 32 := Scalar.addi v183 v184
  v185.toNat
def k0_dev7 (d0 : Dev nD) : Nat :=
  let c0_i32_207 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_206 : BitVec 32 := 2#32
  let v247 : BitVec 32 := Scalar.muli v6 c2_i32_206
  let v248 : BitVec 32 := Scalar.addi c0_i32_207 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_208 : BitVec 32 := 1#32
  let v249 : BitVec 32 := Scalar.muli v5 c1_i32_208
  let v250 : BitVec 32 := Scalar.addi v248 v249
  v250.toNat
def k0_off3 (d0 : Dev nD) (c0_i32_217 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_216 : BitVec 32 := 512#32
  let v263 : BitVec 32 := Scalar.muli v5 c512_i32_216
  let v264 : BitVec 32 := Scalar.addi v263 c0_i32_217
  let v265 : Index := Scalar.indexCast v264
  let c0_218 : Index := 0#32
  ![v265.toNat, 0]
def k0_dev8 (d0 : Dev nD) : Nat :=
  let c0_i32_269 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_268 : BitVec 32 := 2#32
  let v328 : BitVec 32 := Scalar.muli v2 c2_i32_268
  let v329 : BitVec 32 := Scalar.addi c0_i32_269 v328
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_270 : BitVec 32 := 1#32
  let v330 : BitVec 32 := Scalar.muli v7 c1_i32_270
  let v331 : BitVec 32 := Scalar.addi v329 v330
  v331.toNat
def k0_dev9 (d0 : Dev nD) : Nat :=
  let c0_i32_331 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_330 : BitVec 32 := 2#32
  let v409 : BitVec 32 := Scalar.muli v2 c2_i32_330
  let v410 : BitVec 32 := Scalar.addi c0_i32_331 v409
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_332 : BitVec 32 := 1#32
  let v411 : BitVec 32 := Scalar.muli v7 c1_i32_332
  let v412 : BitVec 32 := Scalar.addi v410 v411
  v412.toNat
def k0_off4 (d0 : Dev nD) (c0_i32_357 : BitVec 32) : Fin 2 → Nat :=
  let c1_i32_355 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v433 : BitVec 32 := Scalar.subi c1_i32_355 v5
  let c512_i32_356 : BitVec 32 := 512#32
  let v434 : BitVec 32 := Scalar.muli v433 c512_i32_356
  let v435 : BitVec 32 := Scalar.addi v434 c0_i32_357
  let v436 : Index := Scalar.indexCast v435
  let c0_358 : Index := 0#32
  ![v436.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S2048x1 : Shape := ⟨2, ![2048, 1]⟩
abbrev S4x1024x2048 : Shape := ⟨3, ![4, 1024, 2048]⟩
abbrev S4x2048x1024 : Shape := ⟨3, ![4, 2048, 1024]⟩
abbrev S_ : Shape := ⟨0, ![]⟩
abbrev S1x1024x2048 : Shape := ⟨3, ![1, 1024, 2048]⟩
abbrev S1024x2048 : Shape := ⟨2, ![1024, 2048]⟩
abbrev S2048x2048 : Shape := ⟨2, ![2048, 2048]⟩
abbrev S1x2048x1024 : Shape := ⟨3, ![1, 2048, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1, .i32⟩
  | .hbm, ⟨2, _⟩ => ⟨S4x1024x2048, .f32⟩
  | .hbm, ⟨3, _⟩ => ⟨S4x2048x1024, .f32⟩
  | .hbm, ⟨4, _⟩ => ⟨S_, .f32⟩
  | .hbm, ⟨5, _⟩ => ⟨S2048x1024, .f32⟩
  | .hbm, ⟨6, _⟩ => ⟨S1x1024x2048, .f32⟩
  | .hbm, ⟨7, _⟩ => ⟨S1024x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x2048x1024, .f32⟩
  | .hbm, ⟨16, _⟩ => ⟨S2048x1024, .f32⟩
  | .hbm, ⟨17, _⟩ => ⟨S2048x1024, .f32⟩
  | .hbm, ⟨18, _⟩ => ⟨S2048x1024, .i1⟩
  | .hbm, ⟨19, _⟩ => ⟨S2048x1024, .f32⟩
  | .hbm, ⟨20, _⟩ => ⟨S1x1024x2048, .f32⟩
  | .hbm, ⟨21, _⟩ => ⟨S1024x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .i32⟩
  | .hbm, ⟨27, _⟩ => ⟨S2048x1, .i32⟩
  | .hbm, ⟨28, _⟩ => ⟨S2048x1, .i1⟩
  | .hbm, ⟨29, _⟩ => ⟨S1x2048x1024, .f32⟩
  | .hbm, ⟨30, _⟩ => ⟨S2048x1024, .f32⟩
  | .hbm, ⟨31, _⟩ => ⟨S2048x1024, .f32⟩
  | .hbm, ⟨32, _⟩ => ⟨S2048x1024, .i1⟩
  | .hbm, ⟨33, _⟩ => ⟨S2048x1024, .f32⟩
  | .hbm, ⟨34, _⟩ => ⟨S1x1024x2048, .f32⟩
  | .hbm, ⟨35, _⟩ => ⟨S1024x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S_, .i32⟩
  | .hbm, ⟨41, _⟩ => ⟨S2048x1, .i32⟩
  | .hbm, ⟨42, _⟩ => ⟨S2048x1, .i1⟩
  | .hbm, ⟨43, _⟩ => ⟨S1x2048x1024, .f32⟩
  | .hbm, ⟨44, _⟩ => ⟨S2048x1024, .f32⟩
  | .hbm, ⟨45, _⟩ => ⟨S2048x1024, .f32⟩
  | .hbm, ⟨46, _⟩ => ⟨S2048x1024, .i1⟩
  | .hbm, ⟨47, _⟩ => ⟨S2048x1024, .f32⟩
  | .hbm, ⟨48, _⟩ => ⟨S1x1024x2048, .f32⟩
  | .hbm, ⟨49, _⟩ => ⟨S1024x2048, .f32⟩
  | .hbm, ⟨50, _⟩ => ⟨S2048x2048, .f32⟩
  | .hbm, ⟨51, _⟩ => ⟨S_, .f32⟩
  | .hbm, ⟨52, _⟩ => ⟨S2048x2048, .f32⟩
  | .hbm, ⟨53, _⟩ => ⟨S2048x2048, .f32⟩
  | .hbm, ⟨54, _⟩ => ⟨S_, .i32⟩
  | .hbm, ⟨55, _⟩ => ⟨S2048x1, .i32⟩
  | .hbm, ⟨56, _⟩ => ⟨S2048x1, .i1⟩
  | .hbm, ⟨57, _⟩ => ⟨S1x2048x1024, .f32⟩
  | .hbm, ⟨58, _⟩ => ⟨S2048x1024, .f32⟩
  | .hbm, ⟨59, _⟩ => ⟨S2048x1024, .f32⟩
  | .hbm, ⟨60, _⟩ => ⟨S2048x1024, .i1⟩
  | .hbm, ⟨61, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call2_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call3_v0 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.Proto.lean ====
/-
# The protocol of the two-by-two expert exchange

Device `c` of the four sits at row `c / 2`, column `c % 2`. Its row decides which block of the rows of `x` it
holds, so the two devices of a row hold the same block; its column of the mesh is named by the peer *across the
rows*, `xp c`, and the peer *along the row* is `yp c`. Each row of devices keeps two of the four experts.

The run uses one barrier cell and fourteen transfer cells per device: transfer `k` of seven has a cell counting
what left (`sS k`) and a cell counting what arrived (`vS k`). Transfers `0 .. 4` go to `xp c`, transfers `5, 6` to
`yp c`. Everything about the seven is stated once, at a symbolic `k`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The ghost state of the rounds of the cells, and beside it the counters of the copies a device makes for itself. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-- The state a run starts from: memory `m`, all counters zero, the registers `ρ`. -/
def s₀ : MemSt nD τ sig (Elt F) := ⟨m, fun _ => 0, ρ⟩

/-! ## The peers -/

set_option backward.proofsInPublic true in
/-- The device holding the other block of rows, at the same place in its row. -/
def xp (c : Dev nD) : Dev nD := ⟨(c.val + 2) % 4, Nat.mod_lt _ (by decide)⟩
set_option backward.proofsInPublic true in
/-- The other device of the same row. -/
def yp (c : Dev nD) : Dev nD := ⟨2 * (c.val / 2) + (1 - c.val % 2), by have := c.isLt; change _ < 4; change c.val < 4 at this; omega⟩
/-- The peer of a group of transfers: across the rows (`false`) or along the row (`true`). -/
def pr (b : Bool) (c : Dev nD) : Dev nD := if b then yp c else xp c
theorem xp_xp (c : Dev nD) : xp (xp c) = c := by revert c; decide
theorem yp_yp (c : Dev nD) : yp (yp c) = c := by revert c; decide
theorem pr_pr (b : Bool) (c : Dev nD) : pr b (pr b c) = c := by revert b c; decide
/-- Going to a peer and back, as a bijection of the devices. -/
def prE (b : Bool) : Dev nD ≃ Dev nD := ⟨pr b, pr b, pr_pr b, pr_pr b⟩

/-- The device addresses the body computes are the two peers. -/
theorem dev1_eq (c : Dev nD) : (⟨k0_dev1 c, k0_dev1_lt c⟩ : Dev nD) = xp c := Fin.ext ((k0_dev1_eq c).trans (by revert c; decide))
theorem dev2_eq (c : Dev nD) : (⟨k0_dev2 c, k0_dev2_lt c⟩ : Dev nD) = yp c := Fin.ext ((k0_dev2_eq c).trans (by revert c; decide))
theorem dev3_eq (c : Dev nD) : (⟨k0_dev3 c, k0_dev3_lt c⟩ : Dev nD) = xp c := Fin.ext ((k0_dev3_eq c).trans (by revert c; decide))
theorem dev4_eq (c : Dev nD) : (⟨k0_dev4 c, k0_dev4_lt c⟩ : Dev nD) = xp c := Fin.ext ((k0_dev4_eq c).trans (by revert c; decide))
theorem dev5_eq (c : Dev nD) : (⟨k0_dev5 c, k0_dev5_lt c⟩ : Dev nD) = xp c := Fin.ext ((k0_dev5_eq c).trans (by revert c; decide))
theorem dev6_eq (c : Dev nD) : (⟨k0_dev6 c, k0_dev6_lt c⟩ : Dev nD) = xp c := Fin.ext ((k0_dev6_eq c).trans (by revert c; decide))
theorem dev7_eq (c : Dev nD) : (⟨k0_dev7 c, k0_dev7_lt c⟩ : Dev nD) = xp c := Fin.ext ((k0_dev7_eq c).trans (by revert c; decide))
theorem dev8_eq (c : Dev nD) : (⟨k0_dev8 c, k0_dev8_lt c⟩ : Dev nD) = yp c := Fin.ext ((k0_dev8_eq c).trans (by revert c; decide))
theorem dev9_eq (c : Dev nD) : (⟨k0_dev9 c, k0_dev9_lt c⟩ : Dev nD) = yp c := Fin.ext ((k0_dev9_eq c).trans (by revert c; decide))

/-! ## The buffers -/

abbrev xM : Memref sig .tc .vmem S1024x1024 .f32 := Memref.whole cc0_stg0_0
abbrev aM : Memref sig .tc .vmem S1024x1 .i32 := Memref.whole cc0_stg1_0
abbrev oM : Memref sig .tc .vmem S1024x1024 .f32 := Memref.whole cc0_stg2_0
abbrev w1M : Memref sig .tc .hbm S2x1024x2048 .f32 := Memref.whole main_arg2
abbrev w2M : Memref sig .tc .hbm S2x2048x1024 .f32 := Memref.whole main_arg3
abbrev xsM : Memref sig .tc .vmem S512x1024 .bf16 := Memref.whole cc0_scratch0
abbrev xlM : Memref sig .tc .vmem S512x1024 .bf16 := Memref.whole cc0_scratch1
abbrev alM : Memref sig .tc .vmem S512x1 .i32 := Memref.whole cc0_scratch2
abbrev ysM : Memref sig .tc .vmem S512x1024 .bf16 := Memref.whole cc0_scratch3
abbrev ylM : Memref sig .tc .vmem S512x1024 .bf16 := Memref.whole cc0_scratch4
abbrev hsM : Memref sig .tc .vmem S512x1024 .bf16 := Memref.whole cc0_scratch5
abbrev hlM : Memref sig .tc .vmem S512x1024 .bf16 := Memref.whole cc0_scratch6
abbrev w1bM : Memref sig .tc .vmem S2x1024x2048 .bf16 := Memref.whole cc0_scratch7
abbrev w2bM : Memref sig .tc .vmem S2x2048x1024 .bf16 := Memref.whole cc0_scratch8
abbrev st1M : Memref sig .tc .vmem S1024x2048 .f32 := Memref.whole cc0_scratch9
abbrev st2M : Memref sig .tc .vmem S2048x1024 .f32 := Memref.whole cc0_scratch10

/-- The two chunks of 256 rows of a buffer of 512 rows, by number. -/
abbrev loR : Rect S512x1024 := Rect.unit (s := S512x1024) ![0, 0] S256x1024.size inb_S512x1024_S256x1024_0_0
abbrev hiR : Rect S512x1024 := Rect.unit (s := S512x1024) ![256, 0] S256x1024.size inb_S512x1024_S256x1024_256_0
abbrev lo (M : Memref sig .tc .vmem S512x1024 .bf16) : Memref sig .tc .vmem S256x1024 .bf16 := M.slice loR (fun _ => rfl)
abbrev hi (M : Memref sig .tc .vmem S512x1024 .bf16) : Memref sig .tc .vmem S256x1024 .bf16 := M.slice hiR (fun _ => rfl)
/-- The half of the assignment column a device hands over. -/
abbrev aR (c : Dev nD) : Rect S1024x1 := Rect.unit (s := S1024x1) (k0_off1 c) S512x1.size (k0_off1_inb c)
abbrev aH (c : Dev nD) : Memref sig .tc .vmem S512x1 .i32 := aM.slice (aR c) (fun _ => rfl)

/-! ## What each buffer holds -/

/-- What the window reads: `x`'s block and the assignment block of a device. -/
def xb (c : Dev nD) : (cc0_stg0_0 : Ref sig .tc).ty.Contents (Elt F) :=
  (win0_0.blk t0_0).view.read (Elt F) ((s₀ m ρ).mem ((c : Thread nD τ).loc main_arg0))
def ab (c : Dev nD) : (cc0_stg1_0 : Ref sig .tc).ty.Contents (Elt F) :=
  (win0_1.blk t0_0).view.read (Elt F) ((s₀ m ρ).mem ((c : Thread nD τ).loc main_arg1))

/-- The row of the mesh a device is in, as the body computes it. -/
def mx (c : Dev nD) : BitVec 32 := Scalar.remsi (Scalar.divsi (Dev.word c) 2#32) 2#32

abbrev x0R (c : Dev nD) : Rect S1024x1024 := Rect.unit (s := S1024x1024) (k0_off2 c 0#32) S256x1024.size (k0_off2_inb c 0)
abbrev x1R (c : Dev nD) : Rect S1024x1024 := Rect.unit (s := S1024x1024) (k0_off2 c 256#32) S256x1024.size (k0_off2_inb c 1)
abbrev a0R (c : Dev nD) : Rect S1024x1 := Rect.unit (s := S1024x1) (k0_off3 c 0#32) S256x1.size (k0_off3_inb c 0)
abbrev a1R (c : Dev nD) : Rect S1024x1 := Rect.unit (s := S1024x1) (k0_off3 c 256#32) S256x1.size (k0_off3_inb c 1)
abbrev f0R (c : Dev nD) : Rect S1024x1024 := Rect.unit (s := S1024x1024) (k0_off4 c 0#32) S256x1024.size (k0_off4_inb c 0)
abbrev f1R (c : Dev nD) : Rect S1024x1024 := Rect.unit (s := S1024x1024) (k0_off4 c 256#32) S256x1024.size (k0_off4_inb c 1)
abbrev al0R : Rect S512x1 := Rect.unit (s := S512x1) ![0, 0] S256x1.size inb_S512x1_S256x1_0_0
abbrev al1R : Rect S512x1 := Rect.unit (s := S512x1) ![256, 0] S256x1.size inb_S512x1_S256x1_256_0
abbrev g0R : Rect S2x1024x2048 := Rect.unit (s := S2x1024x2048) ![0, 0, 0] S1x1024x2048.size inb_S2x1024x2048_S1x1024x2048_0_0_0
abbrev g1R : Rect S2x1024x2048 := Rect.unit (s := S2x1024x2048) ![1, 0, 0] S1x1024x2048.size inb_S2x1024x2048_S1x1024x2048_1_0_0
abbrev d0R : Rect S2x2048x1024 := Rect.unit (s := S2x2048x1024) ![0, 0, 0] S1x2048x1024.size inb_S2x2048x1024_S1x2048x1024_0_0_0
abbrev d1R : Rect S2x2048x1024 := Rect.unit (s := S2x2048x1024) ![1, 0, 0] S1x2048x1024.size inb_S2x2048x1024_S1x2048x1024_1_0_0

/-- A chunk of the own rows of `x`, of the own assignment column. -/
def xr0 (c : Dev nD) : Vec F S256x1024 .f32 := xM.view.readAt (Elt F) (x0R c).toLoadRect (xb m ρ c)
def xr1 (c : Dev nD) : Vec F S256x1024 .f32 := xM.view.readAt (Elt F) (x1R c).toLoadRect (xb m ρ c)
def ar0 (c : Dev nD) : Vec F S256x1 .i32 := aM.view.readAt (Elt F) (a0R c).toLoadRect (ab m ρ c)
def ar1 (c : Dev nD) : Vec F S256x1 .i32 := aM.view.readAt (Elt F) (a1R c).toLoadRect (ab m ρ c)

/-- What is handed across the rows: two chunks of `x` and half of the assignment column. -/
def X0 (c : Dev nD) : Vec F S256x1024 .bf16 := k0_pay2 (xr0 m ρ c)
def X1 (c : Dev nD) : Vec F S256x1024 .bf16 := k0_pay3 (xr1 m ρ c)
def A (c : Dev nD) : Vec F S512x1 .i32 := (aH c).view.read (Elt F) (ab m ρ c)

/-- One expert's matrices, out of the two a device holds. -/
abbrev w1g0 : Memref sig .tc .hbm S1024x2048 .f32 := (w1M.slice g0R (fun _ => rfl)).squeeze S1024x2048 squeezes_S1x1024x2048_S1024x2048
abbrev w1g1 : Memref sig .tc .hbm S1024x2048 .f32 := (w1M.slice g1R (fun _ => rfl)).squeeze S1024x2048 squeezes_S1x1024x2048_S1024x2048
abbrev w2g0 : Memref sig .tc .hbm S2048x1024 .f32 := (w2M.slice d0R (fun _ => rfl)).squeeze S2048x1024 squeezes_S1x2048x1024_S2048x1024
abbrev w2g1 : Memref sig .tc .hbm S2048x1024 .f32 := (w2M.slice d1R (fun _ => rfl)).squeeze S2048x1024 squeezes_S1x2048x1024_S2048x1024
/-- The weights as a device holds them. -/
def W1 (c : Dev nD) : (main_arg2 : Ref sig .tc).ty.Contents (Elt F) := m ((c : Thread nD τ).loc main_arg2)
def W2 (c : Dev nD) : (main_arg3 : Ref sig .tc).ty.Contents (Elt F) := m ((c : Thread nD τ).loc main_arg3)
/-- The two experts' matrices as the body keeps them for its products. -/
def u0 (c : Dev nD) : Vec F S1x1024x2048 .bf16 := k0_pay4 (w1g0.view.read (Elt F) (W1 m c))
def u1 (c : Dev nD) : Vec F S1x1024x2048 .bf16 := k0_pay7 (w1g1.view.read (Elt F) (W1 m c))
def e0 (c : Dev nD) : Vec F S1x2048x1024 .bf16 := k0_pay6 (k0_pay5 (w2g0.view.read (Elt F) (W2 m c)))
def e1 (c : Dev nD) : Vec F S1x2048x1024 .bf16 := k0_pay8 (w2g1.view.read (Elt F) (W2 m c))

/-- The two chunks of the assignment column that arrived from the peer across the rows. -/
def ap0 (c : Dev nD) : Vec F S256x1 .i32 := alM.view.readAt (Elt F) al0R.toLoadRect (A m ρ (xp c))
def ap1 (c : Dev nD) : Vec F S256x1 .i32 := alM.view.readAt (Elt F) al1R.toLoadRect (A m ρ (xp c))

/-- What goes back across the rows: the own experts' part of the peer's rows, by chunk. -/
def Y0 (c : Dev nD) : Vec F S256x1024 .bf16 :=
  k0_pay11 (k0_pay9 (mx c) (X0 m ρ (xp c)) (ap0 m ρ c) (Scalar.ofBits .f32 0x00000000#32) (u0 m c) (e0 m c))
    (k0_pay10 (mx c) (X0 m ρ (xp c)) (ap0 m ρ c) (u1 m c) (e1 m c))
def Y1 (c : Dev nD) : Vec F S256x1024 .bf16 :=
  k0_pay15 (k0_pay12 (mx c) (X1 m ρ (xp c)) (ap1 m ρ c) (u0 m c) (e0 m c)) (k0_pay13 (X1 m ρ (xp c)) (u1 m c) (e1 m c))
    (k0_pay14 (mx c) (ap1 m ρ c))

/-- The own experts' part of the first chunk of the own rows. -/
def Q0 (c : Dev nD) : FVec F S256x1024 .f32 :=
  k0_pay19 (mx c) (k0_pay16 (xr0 m ρ c)) (k0_pay17 (ar0 m ρ c)) k0_pay18 (Scalar.addi (Scalar.muli (mx c) 2#32) 0#32)
    (u0 m c) (e0 m c) (u1 m c) (e1 m c)
/-- The finished chunks: own part and returned part together. -/
def P0 (c : Dev nD) : Vec F S256x1024 .f32 := k0_pay20 (Q0 m ρ c) (Y0 m ρ (xp c))
def P1 (c : Dev nD) : Vec F S256x1024 .f32 :=
  k0_pay26 (k0_pay22 (xr1 m ρ c)) (k0_pay23 (ar1 m ρ c)) (k0_pay24 (mx c) (xr1 m ρ c) (ar1 m ρ c) (u0 m c) (e0 m c))
    (Scalar.addi (Scalar.muli (mx c) 2#32) 1#32) (k0_pay25 (u1 m c)) (e1 m c) (Y1 m ρ (xp c))
/-- What goes along the row: the finished chunks, narrowed. -/
def H0 (c : Dev nD) : Vec F S256x1024 .bf16 := k0_pay21 (Q0 m ρ c) (Y0 m ρ (xp c))
def H1 (c : Dev nD) : Vec F S256x1024 .bf16 := k0_pay27 (P1 m ρ c)

/-- The pieces stored into the result block, the last first. -/
def outPieces (c : Dev nD) : List (View.Piece (Elt F) S1024x1024 .f32) :=
  [⟨f1R c, k0_pay1 (H1 m ρ (yp c))⟩, ⟨f0R c, k0_pay28 (H0 m ρ (yp c))⟩, ⟨x1R c, P1 m ρ c⟩, ⟨x0R c, P0 m ρ c⟩]

end Cert.Exchange
-- ==== Proof.Cells.lean ====
/-
# The cells, what each counts, and what may be waited for while what is still owed

The schedule of the run: the barrier cell is raised once by each of the two peers, each raise handing over the
buffers its sender lets the other write; each transfer cell is raised once, the sending side handing the source back,
the receiving side handing over the filled destination. The levels order the cells by when they are waited for.
-/
module

public import proofs.«01_k».proof.Proof.Proto

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

abbrev barS : Sem sig := (SemArray.scalar (sig.barrier 0 rfl) : Sems sig S_).sem
set_option backward.proofsInPublic true in
/-- The cell of transfer `k` counting what left (`false`), what arrived (`true`). -/
def xS (b : Bool) (k : Fin 7) : DmaSem sig :=
  ⟨(if b then 10 else 3) + k.val, by have := k.isLt; change _ < 19; split <;> omega⟩
/-- The cells of the copies a device makes for itself. -/
def cS (j : Bool) : DmaSem sig := if j then ⟨18, by decide⟩ else ⟨17, by decide⟩

theorem send0 : ((cc0_scratch11.slice (Rect.unit (s := S7) ![0] ![1] inb_S7_S1_0)).squeeze S_ squeezes_S1_S_).sem = xS false 0 := rfl
theorem send1 : ((cc0_scratch11.slice (Rect.unit (s := S7) ![1] ![1] inb_S7_S1_1)).squeeze S_ squeezes_S1_S_).sem = xS false 1 := rfl
theorem send2 : ((cc0_scratch11.slice (Rect.unit (s := S7) ![2] ![1] inb_S7_S1_2)).squeeze S_ squeezes_S1_S_).sem = xS false 2 := rfl
theorem send3 : ((cc0_scratch11.slice (Rect.unit (s := S7) ![3] ![1] inb_S7_S1_3)).squeeze S_ squeezes_S1_S_).sem = xS false 3 := rfl
theorem send4 : ((cc0_scratch11.slice (Rect.unit (s := S7) ![4] ![1] inb_S7_S1_4)).squeeze S_ squeezes_S1_S_).sem = xS false 4 := rfl
theorem send5 : ((cc0_scratch11.slice (Rect.unit (s := S7) ![5] ![1] inb_S7_S1_5)).squeeze S_ squeezes_S1_S_).sem = xS false 5 := rfl
theorem send6 : ((cc0_scratch11.slice (Rect.unit (s := S7) ![6] ![1] inb_S7_S1_6)).squeeze S_ squeezes_S1_S_).sem = xS false 6 := rfl
theorem recv0 : ((cc0_scratch12.slice (Rect.unit (s := S7) ![0] ![1] inb_S7_S1_0)).squeeze S_ squeezes_S1_S_).sem = xS true 0 := rfl
theorem recv1 : ((cc0_scratch12.slice (Rect.unit (s := S7) ![1] ![1] inb_S7_S1_1)).squeeze S_ squeezes_S1_S_).sem = xS true 1 := rfl
theorem recv2 : ((cc0_scratch12.slice (Rect.unit (s := S7) ![2] ![1] inb_S7_S1_2)).squeeze S_ squeezes_S1_S_).sem = xS true 2 := rfl
theorem recv3 : ((cc0_scratch12.slice (Rect.unit (s := S7) ![3] ![1] inb_S7_S1_3)).squeeze S_ squeezes_S1_S_).sem = xS true 3 := rfl
theorem recv4 : ((cc0_scratch12.slice (Rect.unit (s := S7) ![4] ![1] inb_S7_S1_4)).squeeze S_ squeezes_S1_S_).sem = xS true 4 := rfl
theorem recv5 : ((cc0_scratch12.slice (Rect.unit (s := S7) ![5] ![1] inb_S7_S1_5)).squeeze S_ squeezes_S1_S_).sem = xS true 5 := rfl
theorem recv6 : ((cc0_scratch12.slice (Rect.unit (s := S7) ![6] ![1] inb_S7_S1_6)).squeeze S_ squeezes_S1_S_).sem = xS true 6 := rfl
theorem copy0 : ((cc0_scratch13.slice (Rect.unit (s := S2) ![0] ![1] inb_S2_S1_0)).squeeze S_ squeezes_S1_S_).sem = cS false := rfl
theorem copy1 : ((cc0_scratch13.slice (Rect.unit (s := S2) ![1] ![1] inb_S2_S1_1)).squeeze S_ squeezes_S1_S_).sem = cS true := rfl

abbrev bCell (c : Dev nD) : GSem nD τ sig := ((c : Thread nD τ), .reg barS)
abbrev xC (b : Bool) (k : Fin 7) (c : Dev nD) : GSem nD τ sig := ((c : Thread nD τ), .dma (xS b k))

/-- The names of the cells of a device the schedule speaks of: the barrier, and the transfer cells. -/
abbrev CI : Type := Option (Bool × Fin 7)
abbrev csem : CI → SemLoc sig | none => .reg barS | some bk => .dma (xS bk.1 bk.2)
abbrev kcell (ci : Dev nD × CI) : GSem nD τ sig := ((ci.1 : Thread nD τ), csem ci.2)

set_option backward.proofsInPublic true in
/-- Which cell of a device a counter is, if one of these. -/
def dec : SemLoc sig → Option CI
  | .reg s => if s = barS then some none else none
  | .dma q => if h : 3 ≤ q.val ∧ q.val < 10 then some (some (false, ⟨q.val - 3, by omega⟩))
      else if h' : 10 ≤ q.val ∧ q.val < 17 then some (some (true, ⟨q.val - 10, by omega⟩)) else none
theorem dec_bar : dec (.reg barS) = some none := rfl
theorem dec_xS (b : Bool) (k : Fin 7) : dec (.dma (xS b k)) = some (some (b, k)) := by revert b k; decide
theorem dec_csem (i : CI) : dec (csem i) = some i := by revert i; decide
theorem dec_cS (j : Bool) : dec (.dma (cS j)) = none := by revert j; decide
theorem csem_injective : Function.Injective csem := fun i j h => Option.some.inj ((dec_csem i).symm.trans ((congrArg dec h).trans (dec_csem j)))
theorem kcell_injective : Function.Injective kcell := fun a b h =>
  Prod.ext (congrArg (fun g : GSem nD τ sig => g.1.1) h) (csem_injective (congrArg (fun g : GSem nD τ sig => g.2) h))

/-- Which peer a transfer goes to: the last two go along the row. -/
def grp (k : Fin 7) : Bool := decide (5 ≤ k.val)
abbrev peer (k : Fin 7) (c : Dev nD) : Dev nD := pr (grp k) c

/-- What a transfer counts, by the destination it fills. -/
def amt (k : Fin 7) : ℕ := match k with
  | 0 => (lo xlM).view.dmaCredit | 1 => (hi xlM).view.dmaCredit | 2 => (alM : Memref sig .tc .vmem S512x1 .i32).view.dmaCredit
  | 3 => (lo ylM).view.dmaCredit | 4 => (hi ylM).view.dmaCredit | 5 => (lo hlM).view.dmaCredit | 6 => (hi hlM).view.dmaCredit
theorem amt_pos (k : Fin 7) : 0 < amt k := by
  fin_cases k <;> exact View.dmaCredit_pos _ (by decide)

/-! ## What is handed over -/

/-- A memref held outright, whatever it holds. -/
def anyOwn (c : Dev nD) {sp : Space} {s : Shape} {e : EltTy} (M : Memref sig .tc sp s e) : sProp 𝕄 :=
  iprop(∃ X, owns (c : Thread nD τ) M fullShare X)
instance anyOwn_storable (c : Dev nD) {sp : Space} {s : Shape} {e : EltTy} (M : Memref sig .tc sp s e) :
    BI.Storable (upEmb : UEmb _ 𝕄) (anyOwn (F := F) c M) := by unfold anyOwn; infer_instance

/-- What comes back when transfer `k` has left: its source. -/
def sndPay (k : Fin 7) (c : Dev nD) : sProp 𝕄 := match k with
  | 0 => anyOwn c (lo xsM) | 1 => anyOwn c (hi xsM)
  | 2 => owns (c : Thread nD τ) (aH c) fullShare (A m ρ c)
  | 3 => anyOwn c (lo ysM) | 4 => anyOwn c (hi ysM) | 5 => anyOwn c (lo hsM) | 6 => anyOwn c (hi hsM)
/-- What arrives with transfer `k` on device `c`: its destination, filled by the peer. -/
def lndPay (k : Fin 7) (c : Dev nD) : sProp 𝕄 := match k with
  | 0 => owns (c : Thread nD τ) (lo xlM) fullShare (X0 m ρ (xp c))
  | 1 => owns (c : Thread nD τ) (hi xlM) fullShare (X1 m ρ (xp c))
  | 2 => owns (c : Thread nD τ) alM fullShare (A m ρ (xp c))
  | 3 => owns (c : Thread nD τ) (lo ylM) fullShare (Y0 m ρ (xp c))
  | 4 => owns (c : Thread nD τ) (hi ylM) fullShare (Y1 m ρ (xp c))
  | 5 => owns (c : Thread nD τ) (lo hlM) fullShare (H0 m ρ (yp c))
  | 6 => owns (c : Thread nD τ) (hi hlM) fullShare (H1 m ρ (yp c))
/-- The destination of transfer `k` on device `c`, before anything arrived. -/
def lndAny (k : Fin 7) (c : Dev nD) : sProp 𝕄 := match k with
  | 0 => anyOwn c (lo xlM) | 1 => anyOwn c (hi xlM) | 2 => anyOwn c alM
  | 3 => anyOwn c (lo ylM) | 4 => anyOwn c (hi ylM) | 5 => anyOwn c (lo hlM) | 6 => anyOwn c (hi hlM)
/-- What a peer's barrier raise hands over: its destinations of the transfers to it. -/
def barPay (b : Bool) (c : Dev nD) : sProp 𝕄 := bigSep (Finset.univ.filter fun k => grp k = b) fun k => lndAny k (pr b c)

instance sndPay_storable (k : Fin 7) (c : Dev nD) : BI.Storable (upEmb : UEmb _ 𝕄) (sndPay m ρ k c) := by
  unfold sndPay; fin_cases k <;> (dsimp only; infer_instance)
instance lndPay_storable (k : Fin 7) (c : Dev nD) : BI.Storable (upEmb : UEmb _ 𝕄) (lndPay m ρ k c) := by
  unfold lndPay; fin_cases k <;> (dsimp only; infer_instance)
instance lndAny_storable (k : Fin 7) (c : Dev nD) : BI.Storable (upEmb : UEmb _ 𝕄) (lndAny (F := F) k c) := by
  unfold lndAny; fin_cases k <;> (dsimp only; infer_instance)
instance barPay_storable (b : Bool) (c : Dev nD) : BI.Storable (upEmb : UEmb _ 𝕄) (barPay (F := F) b c) := by
  unfold barPay; infer_instance

theorem barPay_x (c : Dev nD) : (barPay false c : sProp 𝕄)
    = iprop(lndAny 0 (xp c) ∗ lndAny 1 (xp c) ∗ lndAny 2 (xp c) ∗ lndAny 3 (xp c) ∗ lndAny 4 (xp c)) := by
  unfold barPay; rw [bigSep_eq_bigSepL_of_eq [0, 1, 2, 3, 4] (by decide) (by decide)]; rfl
theorem barPay_y (c : Dev nD) : (barPay true c : sProp 𝕄) = iprop(lndAny 5 (yp c) ∗ lndAny 6 (yp c)) := by
  unfold barPay; rw [bigSep_eq_bigSepL_of_eq [5, 6] (by decide) (by decide)]; rfl

/-! ## The schedule -/

/-- The duties, amounts and payloads of the cells: all in round `0`. -/
def Rd : Rounds.Schedule (GSem nD τ sig) Bool 𝕄 where
  duties g r := if r = 0 ∧ g.1.2 = .tc then (match dec g.2 with | some none => Finset.univ | some (some _) => {false} | none => ∅) else ∅
  amount g _ _ := match dec g.2 with | some (some bk) => amt bk.2 | _ => 1
  payload g _ d := match dec g.2 with
    | some none => barPay d g.1.1
    | some (some bk) => if bk.1 then lndPay m ρ bk.2 g.1.1 else sndPay m ρ bk.2 g.1.1
    | none => iprop(emp)
  amount_pos := fun g r d h => by
    split
    · exact amt_pos _
    · exact Nat.one_pos

instance Rd_payload_storable (g : GSem nD τ sig) (r : ℕ) (d : Bool) : BI.Storable (upEmb : UEmb _ 𝕄) ((Rd m ρ).payload g r d) := by
  dsimp only [Rd]
  split
  · infer_instance
  · split <;> infer_instance
  · infer_instance

variable (c : Dev nD)
theorem duties_bar : (Rd m ρ).duties (bCell c) 0 = Finset.univ := by
  dsimp only [Rd]; rw [if_pos ⟨rfl, rfl⟩, dec_bar]
theorem duties_x (b : Bool) (k : Fin 7) : (Rd m ρ).duties (xC b k c) 0 = {false} := by
  dsimp only [Rd]; rw [if_pos ⟨rfl, rfl⟩, dec_xS]
theorem duties_later (g : GSem nD τ sig) : ∀ r, 1 ≤ r → (Rd m ρ).duties g r = ∅ :=
  fun r hr => by dsimp only [Rd]; rw [if_neg fun h => by omega]
theorem amount_bar (d : Bool) : (Rd m ρ).amount (bCell c) 0 d = 1 := rfl
theorem amount_x (b : Bool) (k : Fin 7) (d : Bool) : (Rd m ρ).amount (xC b k c) 0 d = amt k := by
  dsimp only [Rd]; rw [dec_xS]
theorem payload_bar (d : Bool) : (Rd m ρ).payload (bCell c) 0 d = barPay d c := by dsimp only [Rd]; rw [dec_bar]
theorem payload_s (k : Fin 7) (d : Bool) : (Rd m ρ).payload (xC false k c) 0 d = sndPay m ρ k c := by
  dsimp only [Rd]; rw [dec_xS]; rfl
theorem payload_v (k : Fin 7) (d : Bool) : (Rd m ρ).payload (xC true k c) 0 d = lndPay m ρ k c := by
  dsimp only [Rd]; rw [dec_xS]; rfl
theorem expect_bar : (Rd m ρ).expect (bCell c) 0 = 2 := by
  unfold Rounds.Schedule.expect Rounds.Schedule.amountOf
  rw [duties_bar, Finset.sum_congr rfl fun d _ => amount_bar m ρ c d]; decide
theorem expect_x (b : Bool) (k : Fin 7) : (Rd m ρ).expect (xC b k c) 0 = amt k := by
  unfold Rounds.Schedule.expect Rounds.Schedule.amountOf; rw [duties_x, Finset.sum_singleton, amount_x]
/-- All the barrier's round pays: both peers' destinations. -/
theorem rest_bar : bigSep ((Rd m ρ).duties (bCell c) 0 \ ∅) (fun d => (Rd m ρ).payload (bCell c) 0 d)
    = iprop(barPay false c ∗ barPay true c) := by
  rw [Finset.sdiff_empty, duties_bar, BI.bigSep_congr (fun d _ => payload_bar m ρ c d),
    bigSep_univ_eq_bigSepL [false, true] (by decide) (by decide)]; rfl
theorem rest_x (b : Bool) (k : Fin 7) : bigSep ((Rd m ρ).duties (xC b k c) 0 \ ∅) (fun d => (Rd m ρ).payload (xC b k c) 0 d)
    = (Rd m ρ).payload (xC b k c) 0 false := by
  rw [Finset.sdiff_empty, duties_x]; rw [bigSep_singleton]

/-! ## What a device owes, in the order it pays -/

/-- The raises of others' cells a device makes, in order. -/
def payList : List (GSem nD τ sig × ℕ) :=
  [(bCell (xp c), 1), (bCell (yp c), 1), (xC true 2 (peer 2 c), amt 2), (xC true 0 (peer 0 c), amt 0), (xC true 1 (peer 1 c), amt 1),
    (xC true 3 (peer 3 c), amt 3), (xC true 4 (peer 4 c), amt 4), (xC true 5 (peer 5 c), amt 5), (xC true 6 (peer 6 c), amt 6)]
/-- What a list of raises still to be made owes. -/
def tally (l : List (GSem nD τ sig × ℕ)) : CellTallies nD τ sig Unit := l.foldr (fun p acc => acc + tallyAt p.1 () p.2) 0
/-- What is owed when `n` of the raises have been made. -/
def owe (n : ℕ) : CellTallies nD τ sig Unit := tally ((payList c).drop n)

theorem tally_pos {l : List (GSem nD τ sig × ℕ)} {g : GSem nD τ sig} {u : Unit} (h : 0 < tally l g u) : ∃ p ∈ l, g = p.1 := by
  induction l with
  | nil => exact absurd h (lt_irrefl _)
  | cons p l ih =>
    by_cases hg : g = p.1
    · exact ⟨p, List.mem_cons_self .., hg⟩
    · have h' : 0 < tally l g u := by
        have : tally (p :: l) g u = tally l g u + tallyAt p.1 () p.2 g u := rfl
        rw [this, tallyAt_ne_cell hg] at h; exact h
      obtain ⟨q, hq, e⟩ := ih h'
      exact ⟨q, List.mem_cons_of_mem _ hq, e⟩

def L (g : GSem nD τ sig) : Finset Unit := if g.1.2 = .tc then {()} else ∅
/-- The level of a cell: the barrier first, then the three handed over first, then the returned parts, then the row's. -/
def lv (g : GSem nD τ sig) (_ : Unit) : ℕ := match dec g.2 with
  | some none => 1
  | some (some (true, k)) => if k.val < 3 then 2 else if k.val < 5 then 3 else 4
  | _ => 0
theorem L_of_ne (g : GSem nD τ sig) (h : g.1.2 ≠ .tc) : L g = ∅ := if_neg h
theorem L_tc (sm : SemLoc sig) : L ((c : Thread nD τ), sm) = {()} := if_pos rfl

/-- The levels of the cells still to be raised once `n` raises are made. -/
def lvl : ℕ → ℕ | 0 | 1 => 1 | 2 | 3 | 4 => 2 | 5 | 6 => 3 | 7 | 8 => 4 | _ => 5
theorem payList_tc {p : GSem nD τ sig × ℕ} (h : p ∈ payList c) : p.1.1.2 = .tc := by
  unfold payList at h; simp only [List.mem_cons, List.not_mem_nil, or_false] at h
  rcases h with rfl | rfl | rfl | rfl | rfl | rfl | rfl | rfl | rfl <;> rfl
theorem payList_lvl (n : ℕ) {p : GSem nD τ sig × ℕ} (h : p ∈ (payList c).drop n) : lvl n ≤ lv p.1 () := by
  have hl : (payList c).map (fun p => lv p.1 ()) = [1, 1, 2, 2, 2, 3, 3, 4, 4] := rfl
  have hm : lv p.1 () ∈ ([1, 1, 2, 2, 2, 3, 3, 4, 4] : List ℕ).drop n := by
    rw [← hl, ← List.map_drop]; exact List.mem_map_of_mem h
  generalize lv p.1 () = v at hm
  match n with
  | 0 | 1 | 2 | 3 | 4 | 5 | 6 | 7 | 8 => revert hm; simp [lvl]; omega
  | n + 9 => simp at hm

/-- A wait on a cell below everything still owed is allowed. -/
theorem mayWait (n : ℕ) (sm : SemLoc sig) (h : lv ((c : Thread nD τ), sm) () < lvl n) :
    (levAts L lv : sProp 𝕄) ⊢ MayWait (c : Thread nD τ) sm () (owe c n) := by
  exact MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := tally_pos hg
      rw [L, if_pos (payList_tc c (List.mem_of_mem_drop hp))]; exact Finset.mem_singleton_self _)
    (fun p hp => by rw [Finset.mem_singleton.mp hp])
    (fun g u hg => by
      obtain ⟨p, hp, rfl⟩ := tally_pos hg
      exact h.trans_le (payList_lvl c n hp))

end Cert.Exchange
-- ==== Proof.Steps.lean ====
/-
# One lemma per kind of step

The steps the body is made of — a load or a store on a buffer held, a barrier raise, the barrier wait, a transfer to a
peer, the two waits of a transfer, and a device's own copies — each stated once, at the number of raises made so far.
-/
module

public import proofs.«01_k».proof.Proof.Cells

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The run of a program on device `c`, ending in `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A buffer of device `c` held outright with contents `f`. -/
abbrev pts (c : Dev nD) (b : Ref sig .tc) (f : b.ty.Contents (Elt F)) : sProp 𝕄 := ((c : Thread nD τ).loc b) ↦{fullShare} f

variable (m : (ℓ : Loc nD τ sig) → Buf (Elt F) ℓ) (ρ : Dev nD → PrngReg)
variable (K : Dev nD × CI → ℕ)

/-- Every cell's invariant is in place and its round `0` reached. -/
def recs : sProp 𝕄 :=
  iprop((bigSep Finset.univ fun ci : Dev nD × CI => cellInv ER (Rd m ρ) (K ci) (kcell ci))
    ∗ bigSep Finset.univ fun ci : Dev nD × CI => reached ER (kcell ci) 0)
instance recs_persistent : BI.Persistent (recs m ρ K) := by unfold recs; infer_instance
theorem recs_inv (ci : Dev nD × CI) : recs m ρ K ⊢ cellInv ER (Rd m ρ) (K ci) (kcell ci) := by
  unfold recs; iintro ⟨H, -⟩
  iapply (show (bigSep Finset.univ fun ci : Dev nD × CI => (cellInv ER (Rd m ρ) (K ci) (kcell ci) : sProp 𝕄)) ⊢ _
    from bigSep_elim (Finset.mem_univ ci)) $$ H
theorem recs_reached (ci : Dev nD × CI) : recs m ρ K ⊢ reached ER (kcell ci) 0 := by
  unfold recs; iintro ⟨-, H⟩
  iapply (show (bigSep Finset.univ fun ci : Dev nD × CI => (reached ER (kcell ci) 0 : sProp 𝕄)) ⊢ _
    from bigSep_elim (Finset.mem_univ ci)) $$ H

variable (c : Dev nD)

/-- What is owed once `n` raises are made, whatever has been waited for. -/
def OW (n : ℕ) : sProp 𝕄 := iprop(∃ W, owes (c : Thread nD τ) (owe c n) W)

/-- The stages of transfer `k` on device `c`: ready to go; under way; the source back; both ends in. -/
def rdy (k : Fin 7) : sProp 𝕄 :=
  iprop(dutyTok ER (xC false k c) 0 false ∗ dutyTok ER (xC true k (peer k c)) 0 false ∗ atPos ER (xC false k c) 0 ∅ 0
    ∗ atPos ER (xC true k c) 0 ∅ 0 ∗ cred (tallyAt (xC true k c) () (amt k)))
def fly (k : Fin 7) : sProp 𝕄 :=
  iprop(cred (tallyAt (xC false k c) () (amt k)) ∗ atPos ER (xC false k c) 0 ∅ 0
    ∗ atPos ER (xC true k c) 0 ∅ 0 ∗ cred (tallyAt (xC true k c) () (amt k)))
def gone (k : Fin 7) : sProp 𝕄 :=
  iprop(semVal (xC false k c) 0 ∗ atPos ER (xC true k c) 0 ∅ 0 ∗ cred (tallyAt (xC true k c) () (amt k)))
def done (k : Fin 7) : sProp 𝕄 := iprop(semVal (xC false k c) 0 ∗ semVal (xC true k c) 0)

theorem lv_bar : lv (bCell c) () = 1 := by dsimp only [lv]; rw [dec_bar]
theorem lv_recv (k : Fin 7) : lv (xC true k c) () = if k.val < 3 then 2 else if k.val < 5 then 3 else 4 := by
  dsimp only [lv]; rw [dec_xS]

variable {α : Type} {Q : α → sProp (MT nD τ sig Unit (Elt F) ℕ UU ℕ)}

/-! ## Loads and stores -/

theorem hz : (![0, 0] : Fin 2 → Nat) = fun _ => 0 := funext fun a => by fin_cases a <;> rfl

theorem owns_def {sp : Space} {s : Shape} {e : EltTy} (M : Memref sig .tc sp s e) (X : s.Idx → Elt F e) :
    (owns (c : Thread nD τ) M fullShare X : sProp 𝕄)
      = iprop(∃ f, ⌜M.view.read (Elt F) f = X⌝ ∗ (M.view.loc (c : Thread nD τ) ↦[M.view.set]{fullShare} f)) := rfl

/-- Loading a piece held on its own gives what it holds. -/
theorem load_own {s : Shape} {e : EltTy} {M : Memref sig .tc .vmem s e} {r : Rect s} (hr : ∀ a, r.stride a = 1) {hl : M.view.LoadsAt r.toLoadRect}
    {X : r.shape.Idx → Elt F e} {k : (r.shape.Idx → Elt F e) → Prog (TpuEff nD τ sig (Elt F) Λ₀ .tc) α} :
    owns (c : Thread nD τ) (M.slice r hr) fullShare X
      ⊢ iprop((owns (c : Thread nD τ) (M.slice r hr) fullShare X -∗ run c (k X) Q) -∗ run c (.op (.load M r.toLoadRect hl) k) Q) := by
  unfold owns
  iintro ⟨%f, %hf, H⟩ Hk
  iapply (wp_load_rect 𝒱₀ (c : Thread nD τ) none Set.univ (m := M) (r := r) (f := f) (hl := hl) (k := k) (Finset.Subset.refl _)) $$ H
  iintro H
  have e : (M.access r).read (Elt F) f = X := hf
  rw [e]
  iapply Hk
  iexists f
  isplitr; · ipureintro; exact hf
  iexact H

/-- Storing over a piece held on its own leaves what was stored. -/
theorem store_own {s : Shape} {e : EltTy} {M : Memref sig .tc .vmem s e} {r : Rect s} (hr : ∀ a, r.stride a = 1) {w : r.shape.Idx → Elt F e}
    {hx : (M.access r).Stores Finset.univ} {hm : Finset.univ = Finset.univ ∨ ∀ a, r.stride a = 1}
    {k : PUnit → Prog (TpuEff nD τ sig (Elt F) Λ₀ .tc) α} :
    anyOwn c (M.slice r hr)
      ⊢ iprop((owns (c : Thread nD τ) (M.slice r hr) fullShare w -∗ run c (k ⟨⟩) Q) -∗ run c (.op (.store M r w Finset.univ hx hm) k) Q) := by
  unfold anyOwn owns
  iintro ⟨%X, %f, %hf, H⟩ Hk
  iapply (wp_store 𝒱₀ (c : Thread nD τ) none Set.univ (m := M) (r := r) (w := w) (hx := hx) (hm := hm) (k := k) (Mk := Finset.univ) (f := f)
    (Finset.Subset.refl (M.access r).set)) $$ H
  iintro H
  iapply Hk
  iexists _
  isplitr; swap
  · iexact H
  ipureintro
  exact View.read_write_univ _ _

/-! ## Raises and waits -/

/-- What a device hands over by its raise of a peer's barrier: its own destinations. -/
theorem barPay_own (b : Bool) : (barPay b (pr b c) : sProp 𝕄) = bigSep (Finset.univ.filter fun k => grp k = b) fun k => lndAny k c := by
  unfold barPay; rw [pr_pr]

/-- The raise of a peer's barrier. -/
theorem raise (b : Bool) (n : ℕ) {nd : Dev nD} (hn : nd = pr b c) {w : ℕ} (hw : w = 1)
    (hO : owe c n = owe c (n + 1) + tallyAt (bCell (pr b c)) () 1) {k : PUnit → Prog (TpuEff nD τ sig (Elt F) Λ₀ .tc) α} :
    iprop(recs m ρ K ∗ OW c n ∗ dutyTok ER (bCell (pr b c)) 0 b ∗ barPay b (pr b c))
      ⊢ iprop((OW c (n + 1) -∗ run c (k ⟨⟩) Q) -∗ run c (.op (.semSignal (Dev.tc nd : Thread nD τ) barS w) k) Q) := by
  subst hn hw
  unfold OW
  iintro ⟨#HR, ⟨%W, HO⟩, Ht, Hp⟩ Hk
  ihave #HI := (recs_inv m ρ K (pr b c, none)) $$ HR
  ihave #Hr := (recs_reached m ρ K (pr b c, none)) $$ HR
  iapply (Rounds.wp_signal 𝒱₀ ER (Rd m ρ) (c : Thread nD τ) none (dst := (pr b c : Thread nD τ)) (κ := K (pr b c, none)) (d := b)
    (by rw [duties_bar]; exact Finset.mem_univ _) (amount_bar m ρ (pr b c) b) () (owe c (n + 1)) hO) $$ [HO Ht Hp]
  · isplitr; · iexact HI
    isplitl [HO]; · iexact HO
    isplitl [Ht]; · iexact Ht
    isplitl [Hp]
    · rw [payload_bar]; iexact Hp
    iexact Hr
  iintro HO
  iapply Hk
  iexists W; iexact HO

/-- The wait on the own barrier for both peers' raises: their destinations come with it. -/
theorem waitBar (n : ℕ) (hn : 1 < lvl n) {w : ℕ} (hw : w = 2) {k : PUnit → Prog (TpuEff nD τ sig (Elt F) Λ₀ .tc) α} :
    iprop(recs m ρ K ∗ levAts L lv ∗ OW c n ∗ cred (tallyAt (bCell c) () 2) ∗ atPos ER (bCell c) 0 ∅ 0)
      ⊢ iprop(((OW c n ∗ semVal (bCell c) 0 ∗ barPay false c ∗ barPay true c) -∗ run c (k ⟨⟩) Q)
          -∗ run c (.op (.semWait barS w) k) Q) := by
  subst hw
  unfold OW
  iintro ⟨#HR, #HL, ⟨%W, HO⟩, Hc, Hat⟩ Hk
  ihave #HI := (recs_inv m ρ K (c, none)) $$ HR
  iapply (Rounds.wp_wait_rest_token 𝒱₀ ER (Rd m ρ) (c : Thread nD τ) none (κ := K (c, none))
      (wpE_semWait_eq 𝒱₀ (c : Thread nD τ) none Set.univ) (Set.mem_univ _) () (O := owe c n) (W := W) (R := 0) (m := 0) (T := ∅)
      (by rw [Nat.zero_add, expect_bar])) $$ [Hc HO Hat]
  · isplitr; · iexact HI
    isplitl [Hc]; · iexact Hc
    isplitl [HO]; · iexact HO
    isplitr
    · iapply (mayWait c n (.reg barS) (by rw [lv_bar]; exact hn)); iexact HL
    iexact Hat
  iintro ⟨HO, Hat, -, Hpay⟩
  imod (Rounds.cell_close ER (Rd m ρ) (Set.mem_univ (K (c, none))) (fun h => h) (R := 0 + 1) (duties_later m ρ (bCell c))) $$ [Hat] with Hv
  · isplitr; · iexact HI
    iexact Hat
  iapply Hk
  isplitl [HO]; · iexists _; iexact HO
  isplitl [Hv]; · iexact Hv
  iapply (Entails.of_eq (rest_bar m ρ c)); iexact Hpay

/-- A transfer to a peer: the source goes, the destination fills, the raise is made. -/
theorem send (k : Fin 7) (n : ℕ) {nd : Dev nD} (hn : nd = peer k c) (hO : owe c n = owe c (n + 1) + tallyAt (xC true k (peer k c)) () (amt k))
    {s : Shape} {e : EltTy} {src dst : Memref sig .tc .vmem s e} {X : s.Idx → Elt F e}
    {hsc : (dst : Memref sig (Dev.tc nd : Thread nD τ).2.kind .vmem s e).view.ref.isScScratch = false} {hsrc : src.view.WordExact} {hdst : dst.view.WordExact}
    {hsem : DmaTarget.Typed .vmem (.dma (xS true k)) (.remote (Dev.tc nd : Thread nD τ) dst (.dma (xS false k)) hsc)}
    (hN : dst.view.amount (.dma (xS true k)) = amt k)
    (hs : owns (c : Thread nD τ) src fullShare X ⊢ sndPay m ρ k c) (hd : owns (peer k c : Thread nD τ) dst fullShare X ⊢ lndPay m ρ k (peer k c))
    (hl : lndAny k (peer k c) = (anyOwn (peer k c) dst : sProp 𝕄))
    {k' : PUnit → Prog (TpuEff nD τ sig (Elt F) Λ₀ .tc) α} :
    iprop(recs m ρ K ∗ owns (c : Thread nD τ) src fullShare X ∗ lndAny k (peer k c) ∗ OW c n ∗ rdy c k)
      ⊢ iprop(((OW c (n + 1) ∗ fly c k) -∗ run c (k' ⟨⟩) Q)
          -∗ run c (.op (.enqueueDma src (.remote (Dev.tc nd : Thread nD τ) dst (.dma (xS false k)) hsc) (.dma (xS true k)) hsrc hdst hsem) k') Q) := by
  subst hn
  rw [hl]
  unfold OW rdy fly anyOwn
  iintro ⟨#HR, Hs, ⟨%Y, Hd⟩, ⟨%W, HO⟩, Hts, Htv, Has, Hav, Hcv⟩ Hk
  ihave #HIs := (recs_inv m ρ K (c, some (false, k))) $$ HR
  ihave #Hrs := (recs_reached m ρ K (c, some (false, k))) $$ HR
  ihave #HIv := (recs_inv m ρ K (peer k c, some (true, k))) $$ HR
  ihave #Hrv := (recs_reached m ρ K (peer k c, some (true, k))) $$ HR
  ihave Hs := (Entails.of_eq (owns_def (F := F) c src X)) $$ Hs
  ihave Hd := (Entails.of_eq (owns_def (F := F) (peer k c) dst Y)) $$ Hd
  icases Hs with ⟨%fs, %hfs, Hs⟩
  icases Hd with ⟨%fd, %hfd, Hd⟩
  have hs' : ((src.view.loc (c : Thread nD τ)) ↦[src.view.set]{fullShare} fs : sProp 𝕄) ⊢ sndPay m ρ k c :=
    (owns_intro (c : Thread nD τ) src fullShare fs).trans (by rw [hfs]; exact hs)
  have hd' : ((dst.view.loc (peer k c : Thread nD τ)) ↦[dst.view.set]{fullShare} (dst.view.write (Elt F) fd (src.view.read (Elt F) fs) Finset.univ) : sProp 𝕄)
      ⊢ lndPay m ρ k (peer k c) :=
    (owns_intro (peer k c : Thread nD τ) dst fullShare _).trans (by rw [View.read_write_univ, hfs]; exact hd)
  iapply (Rounds.wp_send_pointsTo 𝒱₀ ER (Rd m ρ) (c : Thread nD τ) none (κ₁ := K (c, some (false, k))) (κ₂ := K (peer k c, some (true, k)))
    (r₁ := 0) (r₂ := 0) (d₁ := false) (d₂ := false) (fs := fs) (fd := fd)
    (by rw [duties_x]; exact Finset.mem_singleton_self _) (by rw [duties_x]; exact Finset.mem_singleton_self _)
    () () (amt k) hN (amount_x m ρ c false k false) (amount_x m ρ (peer k c) true k false) (owe c (n + 1)) hO (W := W)
    (by rw [payload_s]; exact hs') (by rw [payload_v]; exact hd')) $$ [Hs Hd HO Hts Htv]
  · isplitr; · iexact HIs
    isplitr; · iexact HIv
    isplitl [Hs]; · iexact Hs
    isplitl [Hd]; · iexact Hd
    isplitl [HO]; · iexact HO
    isplitl [Hts]; · iexact Hts
    isplitr; · iexact Hrs
    isplitl [Htv]; · iexact Htv
    iexact Hrv
  iintro ⟨Hcs, HO⟩
  iapply Hk
  isplitl [HO]; · iexists W; iexact HO
  isplitl [Hcs]; · iexact Hcs
  isplitl [Has]; · iexact Has
  isplitl [Hav] <;> iassumption

/-- A wait on a transfer cell: its payload comes, and the cell is done with. -/
theorem waitX (b : Bool) (k : Fin 7) (n : ℕ) (hn : lv (xC b k c) () < lvl n)
    {sp sp' : Space} {s s' : Shape} {e e' : EltTy} {src : Memref sig .tc sp s e} {dst : Memref sig .tc sp' s' e'}
    {hsrc : src.view.WordExact} {hdst : dst.view.WordExact} (hN : dst.view.dmaCredit = amt k) {k' : PUnit → Prog (TpuEff nD τ sig (Elt F) Λ₀ .tc) α} :
    iprop(recs m ρ K ∗ levAts L lv ∗ OW c n ∗ cred (tallyAt (xC b k c) () (amt k)) ∗ atPos ER (xC b k c) 0 ∅ 0)
      ⊢ iprop(((OW c n ∗ semVal (xC b k c) 0 ∗ (Rd m ρ).payload (xC b k c) 0 false) -∗ run c (k' ⟨⟩) Q)
          -∗ run c (.op (.waitDma2 (xS b k) src dst hsrc hdst) k') Q) := by
  unfold OW
  iintro ⟨#HR, #HL, ⟨%W, HO⟩, Hc, Hat⟩ Hk
  ihave #HI := (recs_inv m ρ K (c, some (b, k))) $$ HR
  iapply (Rounds.wp_wait_rest_token 𝒱₀ ER (Rd m ρ) (c : Thread nD τ) none (κ := K (c, some (b, k)))
      (wpE_waitDma2_eq 𝒱₀ (c : Thread nD τ) none Set.univ) (Set.mem_univ _) () (O := owe c n) (W := W) (R := 0) (m := 0) (T := ∅)
      (by rw [Nat.zero_add, hN, expect_x])) $$ [Hc HO Hat]
  · isplitr; · iexact HI
    isplitl [Hc]; · rw [hN]; iexact Hc
    isplitl [HO]; · iexact HO
    isplitr
    · iapply (mayWait c n (.dma (xS b k)) hn); iexact HL
    iexact Hat
  iintro ⟨HO, Hat, -, Hpay⟩
  imod (Rounds.cell_close ER (Rd m ρ) (Set.mem_univ (K (c, some (b, k)))) (fun h => h) (R := 0 + 1) (duties_later m ρ (xC b k c))) $$ [Hat] with Hv
  · isplitr; · iexact HI
    iexact Hat
  iapply Hk
  isplitl [HO]; · iexists _; iexact HO
  isplitl [Hv]; · iexact Hv
  iapply (Entails.of_eq (rest_x m ρ c b k)); iexact Hpay

/-- Waiting for a transfer to have left: the source comes back. -/
theorem waitS (k : Fin 7) (n : ℕ) (hn : 0 < lvl n)
    {sp sp' : Space} {s s' : Shape} {e e' : EltTy} {src : Memref sig .tc sp s e} {dst : Memref sig .tc sp' s' e'}
    {hsrc : src.view.WordExact} {hdst : dst.view.WordExact} (hN : dst.view.dmaCredit = amt k) {k' : PUnit → Prog (TpuEff nD τ sig (Elt F) Λ₀ .tc) α} :
    iprop(recs m ρ K ∗ levAts L lv ∗ OW c n ∗ fly c k)
      ⊢ iprop(((OW c n ∗ gone c k ∗ sndPay m ρ k c) -∗ run c (k' ⟨⟩) Q) -∗ run c (.op (.waitDma2 (xS false k) src dst hsrc hdst) k') Q) := by
  unfold fly gone
  iintro ⟨#HR, #HL, HO, Hcs, Has, Hav, Hcv⟩ Hk
  iapply (waitX m ρ K c false k n (by have : lv (xC false k c) () = 0 := by { dsimp only [lv]; rw [dec_xS] }
                                      rw [this]; exact hn) hN) $$ [HO Hcs Has]
  · isplitr; · iexact HR
    isplitr; · iexact HL
    isplitl [HO]; · iexact HO
    isplitl [Hcs] <;> iassumption
  iintro ⟨HO, Hv, Hp⟩
  iapply Hk
  isplitl [HO]; · iexact HO
  isplitl [Hv Hav Hcv]
  · isplitl [Hv]; · iexact Hv
    isplitl [Hav] <;> iassumption
  rw [← payload_s m ρ c k false]; iexact Hp

/-- Waiting for a transfer to have arrived: the filled destination comes. -/
theorem waitV (k : Fin 7) (n : ℕ) (hn : (if k.val < 3 then 2 else if k.val < 5 then 3 else 4) < lvl n)
    {sp sp' : Space} {s s' : Shape} {e e' : EltTy} {src : Memref sig .tc sp s e} {dst : Memref sig .tc sp' s' e'}
    {hsrc : src.view.WordExact} {hdst : dst.view.WordExact} (hN : dst.view.dmaCredit = amt k) {k' : PUnit → Prog (TpuEff nD τ sig (Elt F) Λ₀ .tc) α} :
    iprop(recs m ρ K ∗ levAts L lv ∗ OW c n ∗ gone c k)
      ⊢ iprop(((OW c n ∗ done c k ∗ lndPay m ρ k c) -∗ run c (k' ⟨⟩) Q) -∗ run c (.op (.waitDma2 (xS true k) src dst hsrc hdst) k') Q) := by
  unfold gone done
  iintro ⟨#HR, #HL, HO, Hvs, Hav, Hcv⟩ Hk
  iapply (waitX m ρ K c true k n (by rw [lv_recv]; exact hn) hN) $$ [HO Hav Hcv]
  · isplitr; · iexact HR
    isplitr; · iexact HL
    isplitl [HO]; · iexact HO
    isplitl [Hcv] <;> iassumption
  iintro ⟨HO, Hv, Hp⟩
  iapply Hk
  isplitl [HO]; · iexact HO
  isplitl [Hvs Hv]
  · isplitl [Hvs] <;> iassumption
  rw [← payload_v m ρ c k false]; iexact Hp

/-! ## Copies a device makes for itself -/

/-- A copy under way, out of a part of a buffer held at `g`: when it is waited for, the destination is filled and the source back. -/
def copying (j : Bool) {s : Shape} {e : EltTy} (src : Memref sig .tc .hbm s e) (dst : Memref sig .tc .vmem s e)
    (g : Buf (Elt F) (src.view.loc (c : Thread nD τ))) : sProp 𝕄 :=
  iprop(Flight EC (c : Thread nD τ) (.dma (cS j)) () dst.view.dmaCredit
      iprop(owns (c : Thread nD τ) dst fullShare (src.view.read (Elt F) g) ∗ (src.view.loc (c : Thread nD τ) ↦[src.view.set]{fullShare} g))
    ∗ (src.view.loc (c : Thread nD τ) ↦[Finset.univ \ src.view.set]{fullShare} g))

/-- The start of a copy. -/
theorem copy (j : Bool) {s : Shape} {e : EltTy} {src : Memref sig .tc .hbm s e} {dst : Memref sig .tc .vmem s e}
    {g : Buf (Elt F) (src.view.loc (c : Thread nD τ))} (h0 : 0 < dst.view.dmaCredit)
    {hsrc : src.view.WordExact} {hdst : dst.view.WordExact} {hsem : DmaTarget.Typed .hbm (.dma (cS j)) (.here dst : DmaTarget nD τ sig .tc .vmem s e)}
    {k : PUnit → Prog (TpuEff nD τ sig (Elt F) Λ₀ .tc) α} :
    iprop((src.view.loc (c : Thread nD τ) ↦{fullShare} g) ∗ anyOwn c dst ∗ semVal ((c : Thread nD τ), .dma (cS j)) 0)
      ⊢ iprop((copying c j src dst g -∗ run c (k ⟨⟩) Q) -∗ run c (.op (.enqueueDma src (.here dst) (.dma (cS j)) hsrc hdst hsem) k) Q) := by
  unfold anyOwn copying
  iintro ⟨Hs, ⟨%Y, Hd⟩, Hv⟩ Hk
  ihave Hd := (Entails.of_eq (owns_def (F := F) c dst Y)) $$ Hd
  icases Hd with ⟨%fd, %hfd, Hd⟩
  ihave Hs := (pointsTo_split_subset (Finset.subset_univ src.view.set)).1 $$ Hs
  icases Hs with ⟨Hs, Hr⟩
  iapply (wp_dmaLocal EC 𝒱₀ (c : Thread nD τ) none (via := .same) (q := fullShare) (fs := g) (fd := fd) () dst.view.dmaCredit rfl h0
    (Finset.Subset.refl dst.view.set)) $$ [Hs Hd Hv]
  · isplitl [Hs]; · iexact Hs
    isplitl [Hd] <;> iassumption
  iintro Hf
  iapply Hk
  isplitl [Hf]; swap
  · iexact Hr
  iapply (Flight_mono EC (c : Thread nD τ) ?_) $$ Hf
  iintro ⟨Hd, Hs⟩
  isplitl [Hd]; swap
  · iexact Hs
  have e : dst.view.read (Elt F) (dst.view.write (Elt F) fd (ReadAs.same.apply (src.view.read (Elt F) g)) Finset.univ) = src.view.read (Elt F) g :=
    View.read_write_univ _ _
  iapply ((owns_intro (c : Thread nD τ) dst fullShare _).trans (Entails.of_eq (congrArg (owns (c : Thread nD τ) dst fullShare) e))) $$ Hd

/-- The wait for a copy. -/
theorem waitCopy (j : Bool) (n : ℕ) (hn : 0 < lvl n) {s : Shape} {e : EltTy} {src : Memref sig .tc .hbm s e} {dst : Memref sig .tc .vmem s e}
    {g : Buf (Elt F) (src.view.loc (c : Thread nD τ))} {hsrc : src.view.WordExact} {hdst : dst.view.WordExact}
    {k : PUnit → Prog (TpuEff nD τ sig (Elt F) Λ₀ .tc) α} :
    iprop(levAts L lv ∗ OW c n ∗ copying c j src dst g)
      ⊢ iprop(((OW c n ∗ semVal ((c : Thread nD τ), .dma (cS j)) 0 ∗ owns (c : Thread nD τ) dst fullShare (src.view.read (Elt F) g)
            ∗ (src.view.loc (c : Thread nD τ) ↦{fullShare} g)) -∗ run c (k ⟨⟩) Q)
          -∗ run c (.op (.waitDma2 (cS j) src dst hsrc hdst) k) Q) := by
  unfold copying OW
  iintro ⟨#HL, ⟨%W, HO⟩, Hf, Hr⟩ Hk
  iapply (wp_waitLocalO EC 𝒱₀ (c : Thread nD τ) none () (rfl : dst.view.dmaCredit = dst.view.dmaCredit)) $$ [Hf HO]
  · isplitl [Hf]; · iexact Hf
    isplitl [HO]; · iexact HO
    iapply (mayWait c n (.dma (cS j)) (by
      have : lv ((c : Thread nD τ), .dma (cS j)) () = 0 := by { dsimp only [lv]; rw [dec_cS] }
      rw [this]; exact hn)); iexact HL
  iintro ⟨⟨Hd, Hs⟩, Hv, HO⟩
  iapply Hk
  isplitl [HO]; · iexists _; iexact HO
  isplitl [Hv]; · iexact Hv
  isplitl [Hd]; · iexact Hd
  iapply (pointsTo_split_subset (Finset.subset_univ src.view.set)).2
  isplitl [Hs] <;> iassumption

/-! ## Whole buffers, and a store after the load it is printed with -/

/-- A load out of a buffer held whole. -/
theorem load_pts {s : Shape} {e : EltTy} (M : Memref sig .tc .vmem s e) {r : LoadRect s} {hl : M.view.LoadsAt r}
    (f : Buf (Elt F) (M.view.loc (c : Thread nD τ))) {k : (r.shape.Idx → Elt F e) → Prog (TpuEff nD τ sig (Elt F) Λ₀ .tc) α} :
    (M.view.loc (c : Thread nD τ) ↦{fullShare} f)
      ⊢ iprop(((M.view.loc (c : Thread nD τ) ↦{fullShare} f) -∗ run c (k (M.view.readAt (Elt F) r f)) Q) -∗ run c (.op (.load M r hl) k) Q) :=
  wp_load 𝒱₀ (c : Thread nD τ) none Set.univ (m := M) (r := r) (f := f) (hl := hl) (k := k) (Finset.subset_univ _)

/-- A load of the whole of a buffer. -/
theorem load_full {s : Shape} {e : EltTy} (M : Memref sig .tc .vmem s e) {r : LoadRect s} {hl : M.view.LoadsAt r}
    {X : s.Idx → Elt F e} {Y : r.shape.Idx → Elt F e} (hY : ∀ f, M.view.read (Elt F) f = X → M.view.readAt (Elt F) r f = Y)
    (hS : M.view.setOn r.set ⊆ M.view.set) {k : (r.shape.Idx → Elt F e) → Prog (TpuEff nD τ sig (Elt F) Λ₀ .tc) α} :
    owns (c : Thread nD τ) M fullShare X
      ⊢ iprop((owns (c : Thread nD τ) M fullShare X -∗ run c (k Y) Q) -∗ run c (.op (.load M r hl) k) Q) := by
  unfold owns
  iintro ⟨%f, %hf, H⟩ Hk
  iapply (wp_load 𝒱₀ (c : Thread nD τ) none Set.univ (m := M) (r := r) (f := f) (hl := hl) (k := k) hS) $$ H
  iintro H
  rw [hY f hf]
  iapply Hk
  iexists f
  isplitr; · ipureintro; exact hf
  iexact H

/-- A store over a piece held on its own, after a load of it whose value goes unused. -/
theorem over_own {s : Shape} {e : EltTy} {M : Memref sig .tc .vmem s e} {r : Rect s} (hr : ∀ a, r.stride a = 1) {hl : M.view.LoadsAt r.toLoadRect}
    {w : r.shape.Idx → Elt F e} {hx : (M.access r).Stores Finset.univ} {hm : Finset.univ = Finset.univ ∨ ∀ a, r.stride a = 1}
    {k : PUnit → Prog (TpuEff nD τ sig (Elt F) Λ₀ .tc) α} :
    anyOwn c (M.slice r hr)
      ⊢ iprop((owns (c : Thread nD τ) (M.slice r hr) fullShare w -∗ run c (k ⟨⟩) Q)
          -∗ run c (.op (.load M r.toLoadRect hl) fun _ => .op (.store M r w Finset.univ hx hm) k) Q) := by
  unfold anyOwn
  iintro ⟨%X, H⟩ Hk
  iapply (load_own c hr) $$ H
  iintro H
  iapply (store_own c hr) $$ [H]
  · unfold anyOwn; iexists X; iexact H
  iexact Hk

/-- The same on a buffer held whole, its stores so far listed. -/
theorem over_out {s : Shape} {e : EltTy} (M : Memref sig .tc .vmem s e) {r : Rect s} {hl : M.view.LoadsAt r.toLoadRect}
    {w : r.shape.Idx → Elt F e} {hx : (M.access r).Stores Finset.univ} {hm : Finset.univ = Finset.univ ∨ ∀ a, r.stride a = 1}
    (f : Buf (Elt F) (M.view.loc (c : Thread nD τ))) (L : List (View.Piece (Elt F) s e)) {k : PUnit → Prog (TpuEff nD τ sig (Elt F) Λ₀ .tc) α} :
    (M.view.loc (c : Thread nD τ) ↦{fullShare} M.view.writes (Elt F) f L)
      ⊢ iprop(((M.view.loc (c : Thread nD τ) ↦{fullShare} M.view.writes (Elt F) f (⟨r, w⟩ :: L)) -∗ run c (k ⟨⟩) Q)
          -∗ run c (.op (.load M r.toLoadRect hl) fun _ => .op (.store M r w Finset.univ hx hm) k) Q) := by
  iintro H Hk
  iapply (load_pts c M (M.view.writes (Elt F) f L)) $$ H
  iintro H
  iapply (wp_store_writes 𝒱₀ (c : Thread nD τ) none Set.univ (m := M) (r := r) (w := w) (hx := hx) (hm := hm) (k := k) (f := f) (L := L)
    (Finset.subset_univ _)) $$ H
  iexact Hk

end Cert.Exchange
-- ==== Proof.Parts.lean ====
/-
# The body, piece by piece

The body is printed as fifteen pieces in sequence. Each is run on its own from what it uses alone; the next module
chains them.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)
variable {α : Type} {Q : α → sProp (MT nD τ sig Unit (Elt F) ℕ UU ℕ)}

/-- A piece of the body at the buffers it is called on. -/
abbrev onBufs {β : Type 1} (f : (arg0 : Memref sig .tc .vmem S1024x1024 .f32) → (harg0 : arg0.IsWhole) → (arg1 : Memref sig .tc .vmem S1024x1 .i32) → (harg1 : arg1.IsWhole) → (arg2 : Memref sig .tc .hbm S2x1024x2048 .f32) → (harg2 : arg2.IsWhole) → (arg3 : Memref sig .tc .hbm S2x2048x1024 .f32) → (harg3 : arg3.IsWhole) → (arg4 : Memref sig .tc .vmem S1024x1024 .f32) → (harg4 : arg4.IsWhole) → (arg5 : Memref sig .tc .vmem S512x1024 .bf16) → (harg5 : arg5.IsWhole) → (arg6 : Memref sig .tc .vmem S512x1024 .bf16) → (harg6 : arg6.IsWhole) → (arg7 : Memref sig .tc .vmem S512x1 .i32) → (harg7 : arg7.IsWhole) → (arg8 : Memref sig .tc .vmem S512x1024 .bf16) → (harg8 : arg8.IsWhole) → (arg9 : Memref sig .tc .vmem S512x1024 .bf16) → (harg9 : arg9.IsWhole) → (arg10 : Memref sig .tc .vmem S512x1024 .bf16) → (harg10 : arg10.IsWhole) → (arg11 : Memref sig .tc .vmem S512x1024 .bf16) → (harg11 : arg11.IsWhole) → (arg12 : Memref sig .tc .vmem S2x1024x2048 .bf16) → (harg12 : arg12.IsWhole) → (arg13 : Memref sig .tc .vmem S2x2048x1024 .bf16) → (harg13 : arg13.IsWhole) → (arg14 : Memref sig .tc .vmem S1024x2048 .f32) → (harg14 : arg14.IsWhole) → (arg15 : Memref sig .tc .vmem S2048x1024 .f32) → (harg15 : arg15.IsWhole) → (arg16 : DmaSems sig S7) → (arg17 : DmaSems sig S7) → (arg18 : DmaSems sig S2) → β) : β :=
  f xM (Memref.isWhole_whole _) aM (Memref.isWhole_whole _) w1M (Memref.isWhole_whole _) w2M (Memref.isWhole_whole _) oM (Memref.isWhole_whole _)
    xsM (Memref.isWhole_whole _) xlM (Memref.isWhole_whole _) alM (Memref.isWhole_whole _) ysM (Memref.isWhole_whole _) ylM (Memref.isWhole_whole _)
    hsM (Memref.isWhole_whole _) hlM (Memref.isWhole_whole _) w1bM (Memref.isWhole_whole _) w2bM (Memref.isWhole_whole _) st1M (Memref.isWhole_whole _)
    st2M (Memref.isWhole_whole _) cc0_scratch11 cc0_scratch12 cc0_scratch13

/-- The first piece: both peers' barriers raised, the own one waited for, half of the assignment column on its way. -/
theorem part1 {k : (Σ' (d0 : Dev nD) (v2 : BitVec 32) (v5 : BitVec 32) (v6 : BitVec 32), BitVec 32) → Prog (TpuEff nD τ sig (Elt F) Λ₀ .tc) α} :
    iprop(recs m ρ K ∗ levAts L lv ∗ OW c 0 ∗ (dutyTok ER (bCell (xp c)) 0 false ∗ barPay false (xp c)) ∗ (dutyTok ER (bCell (yp c)) 0 true ∗ barPay true (yp c))
        ∗ (cred (tallyAt (bCell c) () 2) ∗ atPos ER (bCell c) 0 ∅ 0) ∗ owns (c : Thread nD τ) (aH c) fullShare (A m ρ c) ∗ rdy c 2)
      ⊢ iprop(((OW c 3 ∗ semVal (bCell c) 0 ∗ (lndAny 0 (peer 0 c) ∗ lndAny 1 (peer 1 c) ∗ lndAny 3 (peer 3 c) ∗ lndAny 4 (peer 4 c)) ∗ (lndAny 5 (peer 5 c) ∗ lndAny 6 (peer 6 c)) ∗ fly c 2)
            -∗ run c (k ⟨c, mx c, Scalar.remsi (Scalar.divsi (Dev.word c) 1#32) 2#32, Scalar.subi 1#32 (mx c),
                Scalar.subi 1#32 (Scalar.remsi (Scalar.divsi (Dev.word c) 1#32) 2#32)⟩) Q)
          -∗ run c (onBufs (k0_part1_skel (F := F)) >>= k) Q) := by
  unfold onBufs k0_part1_skel
  simp only [semSignalWord, semWaitWord, Prog.lift, Prog.bind_op, Prog.bind_ret, Prog.pure_eq_ret, Prog.bind_assoc, wp_deviceId]
  simp only [send2, recv2]
  iintro ⟨#HR, #HL, HO, ⟨Htx, Hbx⟩, ⟨Hty, Hby⟩, ⟨Hc, Hat⟩, Ha, Hr⟩ Hk
  iapply (raise m ρ K c false 0 (dev1_eq c) rfl rfl) $$ [HO Htx Hbx]
  · isplitr; · iexact HR
    isplitl [HO]; · iexact HO
    isplitl [Htx]; · iexact Htx
    iexact Hbx
  iintro HO
  iapply (raise m ρ K c true 1 (dev2_eq c) rfl rfl) $$ [HO Hty Hby]
  · isplitr; · iexact HR
    isplitl [HO]; · iexact HO
    isplitl [Hty]; · iexact Hty
    iexact Hby
  iintro HO
  iapply (waitBar m ρ K c 2 (by decide) rfl) $$ [HO Hc Hat]
  · isplitr; · iexact HR
    isplitr; · iexact HL
    isplitl [HO]; · iexact HO
    isplitl [Hc] <;> iassumption
  iintro ⟨HO, Hv, Hx, Hy⟩
  ihave Hx := (Entails.of_eq (barPay_x c)) $$ Hx
  ihave Hy := (Entails.of_eq (barPay_y c)) $$ Hy
  icases Hx with ⟨H0, H1, H2, H3, H4⟩
  iapply (send m ρ K c 2 2 (X := A m ρ c) (dev3_eq c) rfl rfl (Entails.refl _) (Entails.of_eq (by unfold lndPay; rw [show peer 2 c = xp c from rfl, xp_xp])) rfl) $$ [HO Ha H2 Hr]
  · isplitr; · iexact HR
    isplitl [Ha]; · iexact Ha
    isplitl [H2]; · iexact H2
    isplitl [HO] <;> iassumption
  iintro ⟨HO, Hf⟩
  iapply Hk
  isplitl [HO]; · iexact HO
  isplitl [Hv]; · iexact Hv
  isplitl [H0 H1 H3 H4]
  · isplitl [H0]; · iexact H0
    isplitl [H1]; · iexact H1
    isplitl [H3]; · iexact H3
    iexact H4
  isplitl [Hy]; · iexact Hy
  iexact Hf

/-- The second piece: the first chunk of the own rows narrowed and sent across, the second chunk narrowed. -/
theorem part2 {v5 v6 : BitVec 32} {k : PUnit → Prog (TpuEff nD τ sig (Elt F) Λ₀ .tc) α} :
    iprop(recs m ρ K ∗ OW c 3 ∗ pts c cc0_stg0_0 (xb m ρ c) ∗ anyOwn c (lo xsM) ∗ anyOwn c (hi xsM) ∗ lndAny 0 (peer 0 c) ∗ rdy c 0)
      ⊢ iprop(((OW c 4 ∗ pts c cc0_stg0_0 (xb m ρ c) ∗ owns (c : Thread nD τ) (hi xsM) fullShare (X1 m ρ c) ∗ fly c 0) -∗ run c (k ⟨⟩) Q)
          -∗ run c (onBufs (k0_part2_skel (F := F)) c v5 v6 >>= k) Q) := by
  unfold onBufs k0_part2_skel
  simp only [semSignalWord, semWaitWord, Prog.lift, Prog.bind_op, Prog.bind_ret, Prog.pure_eq_ret, Prog.bind_assoc, wp_deviceId]
  simp only [send0, recv0]
  iintro ⟨#HR, HO, Hx, Hlo, Hhi, H0, Hr⟩ Hk
  iapply (load_pts c xM (xb m ρ c)) $$ Hx
  iintro Hx
  iapply (over_own c (M := xsM) (r := loR) (w := X0 m ρ c) (fun _ => rfl)) $$ Hlo
  iintro Hlo
  iapply (send m ρ K c 0 3 (X := X0 m ρ c) (dev4_eq c) rfl rfl
    (by dsimp only [sndPay]; unfold anyOwn; iintro H; iexists _; iexact H)
    (Entails.of_eq (by unfold lndPay; rw [show peer 0 c = xp c from rfl, xp_xp])) rfl) $$ [HO Hlo H0 Hr]
  · iframe # ∗
  iintro ⟨HO, Hf⟩
  iapply (load_pts c xM (xb m ρ c)) $$ Hx
  iintro Hx
  iapply (over_own c (M := xsM) (r := hiR) (w := X1 m ρ c) (fun _ => rfl)) $$ Hhi
  iintro Hhi
  iapply Hk
  iframe

/-- The two experts' matrices a device keeps for its products. -/
def wts : sProp 𝕄 :=
  iprop(owns (c : Thread nD τ) (w1bM.slice g0R (fun _ => rfl)) fullShare (u0 m c) ∗ owns (c : Thread nD τ) (w1bM.slice g1R (fun _ => rfl)) fullShare (u1 m c)
    ∗ owns (c : Thread nD τ) (w2bM.slice d0R (fun _ => rfl)) fullShare (e0 m c) ∗ owns (c : Thread nD τ) (w2bM.slice d1R (fun _ => rfl)) fullShare (e1 m c))

/-- A load of the whole of a landing buffer. -/
theorem load_st1 {X : S1024x2048.Idx → Elt F .f32} {hl : st1M.view.LoadsAt (Rect.unit (s := S1024x2048) ![0, 0] S1024x2048.size inb_S1024x2048_S1024x2048_0_0).toLoadRect}
    {k : (S1024x2048.Idx → Elt F .f32) → Prog (TpuEff nD τ sig (Elt F) Λ₀ .tc) α} :
    owns (c : Thread nD τ) st1M fullShare X ⊢ iprop((owns (c : Thread nD τ) st1M fullShare X -∗ run c (k X) Q)
      -∗ run c (.op (.load st1M (Rect.unit (s := S1024x2048) ![0, 0] S1024x2048.size inb_S1024x2048_S1024x2048_0_0).toLoadRect hl) k) Q) :=
  load_full c st1M (fun f hf => (Memref.readAt_unit_zero (Elt F) cc0_scratch9 hz _ f).trans hf) (by intro x _; rw [View.set_whole]; exact Finset.mem_univ x)
theorem load_st2 {X : S2048x1024.Idx → Elt F .f32} {hl : st2M.view.LoadsAt (Rect.unit (s := S2048x1024) ![0, 0] S2048x1024.size inb_S2048x1024_S2048x1024_0_0).toLoadRect}
    {k : (S2048x1024.Idx → Elt F .f32) → Prog (TpuEff nD τ sig (Elt F) Λ₀ .tc) α} :
    owns (c : Thread nD τ) st2M fullShare X ⊢ iprop((owns (c : Thread nD τ) st2M fullShare X -∗ run c (k X) Q)
      -∗ run c (.op (.load st2M (Rect.unit (s := S2048x1024) ![0, 0] S2048x1024.size inb_S2048x1024_S2048x1024_0_0).toLoadRect hl) k) Q) :=
  load_full c st2M (fun f hf => (Memref.readAt_unit_zero (Elt F) cc0_scratch10 hz _ f).trans hf) (by intro x _; rw [View.set_whole]; exact Finset.mem_univ x)

/-- What both weight fetches work on: the arguments, the landing buffers, the two copy semaphores. -/
def fetching : sProp 𝕄 :=
  iprop(pts c main_arg2 (W1 m c) ∗ pts c main_arg3 (W2 m c) ∗ anyOwn c st1M ∗ anyOwn c st2M
    ∗ semVal ((c : Thread nD τ), .dma (cS false)) 0 ∗ semVal ((c : Thread nD τ), .dma (cS true)) 0)

/-- The third piece: the second chunk sent; the first expert's matrices fetched, the first of them stored. -/
theorem part3 {k : (Σ' (v87 : FVec F S2048x1024 .bf16), Vec F S1x2048x1024 .bf16) → Prog (TpuEff nD τ sig (Elt F) Λ₀ .tc) α} :
    iprop(recs m ρ K ∗ levAts L lv ∗ OW c 4 ∗ owns (c : Thread nD τ) (hi xsM) fullShare (X1 m ρ c) ∗ lndAny 1 (peer 1 c) ∗ rdy c 1 ∗ fetching m c
        ∗ anyOwn c (w1bM.slice g0R (fun _ => rfl)) ∗ anyOwn c (w2bM.slice d0R (fun _ => rfl)))
      ⊢ iprop((∀ v, (OW c 5 ∗ fly c 1 ∗ fetching m c ∗ owns (c : Thread nD τ) (w1bM.slice g0R (fun _ => rfl)) fullShare (u0 m c) ∗ anyOwn c (w2bM.slice d0R (fun _ => rfl)))
            -∗ run c (k ⟨k0_pay5 (w2g0.view.read (Elt F) (W2 m c)), v⟩) Q)
          -∗ run c (onBufs (k0_part3_skel (F := F)) c >>= k) Q) := by
  unfold onBufs k0_part3_skel
  simp only [semSignalWord, semWaitWord, Prog.lift, Prog.bind_op, Prog.bind_ret, Prog.pure_eq_ret, Prog.bind_assoc, wp_deviceId]
  simp only [send1, recv1, copy0, copy1]
  unfold fetching
  iintro ⟨#HR, #HL, HO, Hs, H1, Hr, ⟨HW1, HW2, Hst1, Hst2, Hc0, Hc1⟩, Hg, Hd⟩ Hk
  iapply (send m ρ K c 1 4 (X := X1 m ρ c) (dev5_eq c) rfl rfl
    (by dsimp only [sndPay]; unfold anyOwn; iintro H; iexists _; iexact H)
    (Entails.of_eq (by unfold lndPay; rw [show peer 1 c = xp c from rfl, xp_xp])) rfl) $$ [HO Hs H1 Hr]
  · iframe # ∗
  iintro ⟨HO, Hf⟩
  iapply (copy c false (src := w1g0) (dst := st1M) (g := W1 m c) (by decide)) $$ [HW1 Hst1 Hc0]
  · iframe
  iintro HC0
  iapply (copy c true (src := w2g0) (dst := st2M) (g := W2 m c) (by decide)) $$ [HW2 Hst2 Hc1]
  · iframe
  iintro HC1
  iapply (waitCopy c false 5 (by decide) (src := w1g0) (dst := st1M) (g := W1 m c)) $$ [HO HC0]
  · iframe # ∗
  iintro ⟨HO, Hc0, Hst1, HW1⟩
  iapply (load_st1 c) $$ Hst1
  iintro Hst1
  iapply (over_own c (M := w1bM) (r := g0R) (w := u0 m c) (fun _ => rfl)) $$ Hg
  iintro Hg
  iapply (waitCopy c true 5 (by decide) (src := w2g0) (dst := st2M) (g := W2 m c)) $$ [HO HC1]
  · iframe # ∗
  iintro ⟨HO, Hc1, Hst2, HW2⟩
  iapply (load_st2 c) $$ Hst2
  iintro Hst2
  unfold anyOwn
  icases Hd with ⟨%Y, Hd⟩
  iapply (load_own c (M := w2bM) (r := d0R) (fun _ => rfl)) $$ Hd
  iintro Hd
  iapply Hk
  isplitl [HO]; · iexact HO
  isplitl [Hf]; · iexact Hf
  isplitr [Hg Hd]
  · isplitl [HW1]; · iexact HW1
    isplitl [HW2]; · iexact HW2
    isplitl [Hst1]; · iexists _; iexact Hst1
    isplitl [Hst2]; · iexists _; iexact Hst2
    isplitl [Hc0] <;> iassumption
  isplitl [Hg]; · iexact Hg
  iexists _; iexact Hd

/-- The fourth piece: the first expert's second matrix stored, the second expert's matrices fetched, the first of them stored. -/
theorem part4 {v : Vec F S1x2048x1024 .bf16} {k : FVec F S1x2048x1024 .bf16 → Prog (TpuEff nD τ sig (Elt F) Λ₀ .tc) α} :
    iprop(levAts L lv ∗ OW c 5 ∗ fetching m c ∗ anyOwn c (w2bM.slice d0R (fun _ => rfl)) ∗ anyOwn c (w1bM.slice g1R (fun _ => rfl)) ∗ anyOwn c (w2bM.slice d1R (fun _ => rfl)))
      ⊢ iprop(((OW c 5 ∗ fetching m c ∗ owns (c : Thread nD τ) (w2bM.slice d0R (fun _ => rfl)) fullShare (e0 m c)
            ∗ owns (c : Thread nD τ) (w1bM.slice g1R (fun _ => rfl)) fullShare (u1 m c) ∗ anyOwn c (w2bM.slice d1R (fun _ => rfl)))
            -∗ run c (k (e1 m c)) Q)
          -∗ run c (onBufs (k0_part4_skel (F := F)) (k0_pay5 (w2g0.view.read (Elt F) (W2 m c))) v >>= k) Q) := by
  unfold onBufs k0_part4_skel
  simp only [semSignalWord, semWaitWord, Prog.lift, Prog.bind_op, Prog.bind_ret, Prog.pure_eq_ret, Prog.bind_assoc, wp_deviceId]
  simp only [copy0, copy1]
  unfold fetching
  iintro ⟨#HL, HO, ⟨HW1, HW2, Hst1, Hst2, Hc0, Hc1⟩, Hd0, Hg, Hd⟩ Hk
  iapply (store_own c (M := w2bM) (r := d0R) (w := e0 m c) (fun _ => rfl)) $$ Hd0
  iintro Hd0
  iapply (copy c false (src := w1g1) (dst := st1M) (g := W1 m c) (by decide)) $$ [HW1 Hst1 Hc0]
  · iframe
  iintro HC0
  iapply (copy c true (src := w2g1) (dst := st2M) (g := W2 m c) (by decide)) $$ [HW2 Hst2 Hc1]
  · iframe
  iintro HC1
  iapply (waitCopy c false 5 (by decide) (src := w1g1) (dst := st1M) (g := W1 m c)) $$ [HO HC0]
  · iframe # ∗
  iintro ⟨HO, Hc0, Hst1, HW1⟩
  iapply (load_st1 c) $$ Hst1
  iintro Hst1
  iapply (over_own c (M := w1bM) (r := g1R) (w := u1 m c) (fun _ => rfl)) $$ Hg
  iintro Hg
  iapply (waitCopy c true 5 (by decide) (src := w2g1) (dst := st2M) (g := W2 m c)) $$ [HO HC1]
  · iframe # ∗
  iintro ⟨HO, Hc1, Hst2, HW2⟩
  iapply (load_st2 c) $$ Hst2
  iintro Hst2
  unfold anyOwn
  icases Hd with ⟨%Y, Hd⟩
  iapply (load_own c (M := w2bM) (r := d1R) (fun _ => rfl)) $$ Hd
  iintro Hd
  iapply Hk
  isplitl [HO]; · iexact HO
  isplitr [Hg Hd Hd0]
  · isplitl [HW1]; · iexact HW1
    isplitl [HW2]; · iexact HW2
    isplitl [Hst1]; · iexists _; iexact Hst1
    isplitl [Hst2]; · iexists _; iexact Hst2
    isplitl [Hc0] <;> iassumption
  isplitl [Hd0]; · iexact Hd0
  isplitl [Hg]; · iexact Hg
  iexists _; iexact Hd

/-- Loads of the matrices kept. -/
theorem load_g0 {hl : w1bM.view.LoadsAt g0R.toLoadRect} {k : (g0R.shape.Idx → Elt F .bf16) → Prog (TpuEff nD τ sig (Elt F) Λ₀ .tc) α} :
    wts m c ⊢ iprop((wts m c -∗ run c (k (u0 m c)) Q) -∗ run c (.op (.load w1bM g0R.toLoadRect hl) k) Q) := by
  unfold wts; iintro ⟨H, H1, H2, H3⟩ Hk
  iapply (load_own c (M := w1bM) (r := g0R) (fun _ => rfl)) $$ H
  iintro H; iapply Hk; iframe
theorem load_g1 {hl : w1bM.view.LoadsAt g1R.toLoadRect} {k : (g1R.shape.Idx → Elt F .bf16) → Prog (TpuEff nD τ sig (Elt F) Λ₀ .tc) α} :
    wts m c ⊢ iprop((wts m c -∗ run c (k (u1 m c)) Q) -∗ run c (.op (.load w1bM g1R.toLoadRect hl) k) Q) := by
  unfold wts; iintro ⟨H0, H, H2, H3⟩ Hk
  iapply (load_own c (M := w1bM) (r := g1R) (fun _ => rfl)) $$ H
  iintro H; iapply Hk; iframe
theorem load_d0 {hl : w2bM.view.LoadsAt d0R.toLoadRect} {k : (d0R.shape.Idx → Elt F .bf16) → Prog (TpuEff nD τ sig (Elt F) Λ₀ .tc) α} :
    wts m c ⊢ iprop((wts m c -∗ run c (k (e0 m c)) Q) -∗ run c (.op (.load w2bM d0R.toLoadRect hl) k) Q) := by
  unfold wts; iintro ⟨H0, H1, H, H3⟩ Hk
  iapply (load_own c (M := w2bM) (r := d0R) (fun _ => rfl)) $$ H
  iintro H; iapply Hk; iframe
theorem load_d1 {hl : w2bM.view.LoadsAt d1R.toLoadRect} {k : (d1R.shape.Idx → Elt F .bf16) → Prog (TpuEff nD τ sig (Elt F) Λ₀ .tc) α} :
    wts m c ⊢ iprop((wts m c -∗ run c (k (e1 m c)) Q) -∗ run c (.op (.load w2bM d1R.toLoadRect hl) k) Q) := by
  unfold wts; iintro ⟨H0, H1, H2, H⟩ Hk
  iapply (load_own c (M := w2bM) (r := d1R) (fun _ => rfl)) $$ H
  iintro H; iapply Hk; iframe

/-- What a send gives back, or brings, where the buffer's contents no longer matter. -/
theorem any_of {sp : Space} {s : Shape} {e : EltTy} (M : Memref sig .tc sp s e) (X : s.Idx → Elt F e) :
    (owns (c : Thread nD τ) M fullShare X : sProp 𝕄) ⊢ anyOwn c M := by unfold anyOwn; iintro H; iexists X; iexact H

/-- The fifth piece: the second expert's second matrix stored; the assignment half and the first chunk of `x` have come. -/
theorem part5 {v5 v6 : BitVec 32} {k : (Σ' (v139 : Vec F S256x1024 .bf16) (v140 : Vec F S256x1 .i32), F .f32) → Prog (TpuEff nD τ sig (Elt F) Λ₀ .tc) α} :
    iprop(recs m ρ K ∗ levAts L lv ∗ OW c 5 ∗ anyOwn c (w2bM.slice d1R (fun _ => rfl)) ∗ fly c 2 ∗ fly c 0)
      ⊢ iprop(((OW c 5 ∗ owns (c : Thread nD τ) (w2bM.slice d1R (fun _ => rfl)) fullShare (e1 m c) ∗ done c 2 ∗ done c 0
            ∗ owns (c : Thread nD τ) (aH c) fullShare (A m ρ c) ∗ pts c cc0_scratch2 (A m ρ (xp c)) ∗ anyOwn c (lo xsM)
            ∗ owns (c : Thread nD τ) (lo xlM) fullShare (X0 m ρ (xp c)))
            -∗ run c (k ⟨X0 m ρ (xp c), ap0 m ρ c, Scalar.ofBits .f32 0x00000000#32⟩) Q)
          -∗ run c (onBufs (k0_part5_skel (F := F)) c v5 v6 (e1 m c) >>= k) Q) := by
  unfold onBufs k0_part5_skel
  simp only [semSignalWord, semWaitWord, Prog.lift, Prog.bind_op, Prog.bind_ret, Prog.pure_eq_ret, Prog.bind_assoc, wp_deviceId]
  simp only [send2, recv2, send0, recv0]
  iintro ⟨#HR, #HL, HO, Hd, Hf2, Hf0⟩ Hk
  iapply (store_own c (M := w2bM) (r := d1R) (w := e1 m c) (fun _ => rfl)) $$ Hd
  iintro Hd
  iapply (waitS m ρ K c 2 5 (by decide) (dst := (aH c)) rfl) $$ [HO Hf2]
  · iframe # ∗
  iintro ⟨HO, Hf2, Ha⟩
  iapply (waitV m ρ K c 2 5 (by decide) (dst := alM) rfl) $$ [HO Hf2]
  · iframe # ∗
  iintro ⟨HO, Hf2, Hal⟩
  iapply (waitS m ρ K c 0 5 (by decide) (dst := (lo xsM)) rfl) $$ [HO Hf0]
  · iframe # ∗
  iintro ⟨HO, Hf0, Hxs⟩
  iapply (waitV m ρ K c 0 5 (by decide) (dst := (lo xlM)) rfl) $$ [HO Hf0]
  · iframe # ∗
  iintro ⟨HO, Hf0, Hxl⟩
  dsimp only [sndPay, lndPay]
  iapply (load_own c (M := xlM) (r := loR) (fun _ => rfl)) $$ Hxl
  iintro Hxl
  ihave Hal := (Entails.of_eq (owns_whole (c : Thread nD τ) cc0_scratch2 fullShare (A m ρ (xp c)))) $$ Hal
  iapply (load_pts c alM (A m ρ (xp c))) $$ Hal
  iintro Hal
  iapply Hk
  iframe

/-- The sixth piece: the own experts' terms for the peer's first chunk. -/
theorem part6 {v2 : BitVec 32} {x : Vec F S256x1024 .bf16} {a : Vec F S256x1 .i32} {z : F .f32}
    {k : (Σ' (v159 : FVec F S256x1024 .f32), FVec F S256x1024 .f32) → Prog (TpuEff nD τ sig (Elt F) Λ₀ .tc) α} :
    (wts m c : sProp 𝕄) ⊢ iprop((wts m c -∗ run c (k ⟨k0_pay9 v2 x a z (u0 m c) (e0 m c), k0_pay10 v2 x a (u1 m c) (e1 m c)⟩) Q)
      -∗ run c (onBufs (k0_part6_skel (F := F)) v2 x a z >>= k) Q) := by
  unfold onBufs k0_part6_skel
  simp only [semSignalWord, semWaitWord, Prog.lift, Prog.bind_op, Prog.bind_ret, Prog.pure_eq_ret, Prog.bind_assoc, wp_deviceId]
  iintro Hw Hk
  iapply (load_g0 m c) $$ Hw
  iintro Hw
  iapply (load_d0 m c) $$ Hw
  iintro Hw
  iapply (load_g1 m c) $$ Hw
  iintro Hw
  iapply (load_d1 m c) $$ Hw
  iintro Hw
  iapply Hk
  iexact Hw

/-- The seventh piece: those terms' sum sent back; the second chunk of `x` has come. -/
theorem part7 {v5 v6 : BitVec 32} {y y' : FVec F S256x1024 .f32} (hy : k0_pay11 y y' = Y0 m ρ c) {k : PUnit → Prog (TpuEff nD τ sig (Elt F) Λ₀ .tc) α} :
    iprop(recs m ρ K ∗ levAts L lv ∗ OW c 5 ∗ anyOwn c (lo ysM) ∗ lndAny 3 (peer 3 c) ∗ rdy c 3 ∗ fly c 1)
      ⊢ iprop(((OW c 6 ∗ fly c 3 ∗ done c 1 ∗ anyOwn c (hi xsM) ∗ owns (c : Thread nD τ) (hi xlM) fullShare (X1 m ρ (xp c))) -∗ run c (k ⟨⟩) Q)
          -∗ run c (onBufs (k0_part7_skel (F := F)) c v5 v6 y y' >>= k) Q) := by
  unfold onBufs k0_part7_skel
  simp only [semSignalWord, semWaitWord, Prog.lift, Prog.bind_op, Prog.bind_ret, Prog.pure_eq_ret, Prog.bind_assoc, wp_deviceId]
  simp only [send3, recv3, send1, recv1]
  rw [hy]
  iintro ⟨#HR, #HL, HO, Hys, H3, Hr, Hf1⟩ Hk
  iapply (over_own c (M := ysM) (r := loR) (w := Y0 m ρ c) (fun _ => rfl)) $$ Hys
  iintro Hys
  iapply (send m ρ K c 3 5 (X := Y0 m ρ c) (dev6_eq c) rfl rfl (any_of c (lo ysM) _)
    (Entails.of_eq (by unfold lndPay; rw [show peer 3 c = xp c from rfl, xp_xp])) rfl) $$ [HO Hys H3 Hr]
  · iframe # ∗
  iintro ⟨HO, Hf⟩
  iapply (waitS m ρ K c 1 6 (by decide) (dst := (hi xsM)) rfl) $$ [HO Hf1]
  · iframe # ∗
  iintro ⟨HO, Hf1, Hxs⟩
  iapply (waitV m ρ K c 1 6 (by decide) (dst := (hi xlM)) rfl) $$ [HO Hf1]
  · iframe # ∗
  iintro ⟨HO, Hf1, Hxl⟩
  dsimp only [sndPay, lndPay]
  iapply Hk
  iframe

/-- The eighth piece: the own experts' terms for the peer's second chunk. -/
theorem part8 {v2 : BitVec 32} {k : (Σ' (v224 : FVec F S256x1024 .f32) (v235 : FVec F S256x1024 .f32), IVec S256x1 1) → Prog (TpuEff nD τ sig (Elt F) Λ₀ .tc) α} :
    iprop(owns (c : Thread nD τ) (hi xlM) fullShare (X1 m ρ (xp c)) ∗ pts c cc0_scratch2 (A m ρ (xp c)) ∗ wts m c)
      ⊢ iprop(((owns (c : Thread nD τ) (hi xlM) fullShare (X1 m ρ (xp c)) ∗ pts c cc0_scratch2 (A m ρ (xp c)) ∗ wts m c)
            -∗ run c (k ⟨k0_pay12 v2 (X1 m ρ (xp c)) (ap1 m ρ c) (u0 m c) (e0 m c), k0_pay13 (X1 m ρ (xp c)) (u1 m c) (e1 m c), k0_pay14 v2 (ap1 m ρ c)⟩) Q)
          -∗ run c (onBufs (k0_part8_skel (F := F)) v2 >>= k) Q) := by
  unfold onBufs k0_part8_skel
  simp only [semSignalWord, semWaitWord, Prog.lift, Prog.bind_op, Prog.bind_ret, Prog.pure_eq_ret, Prog.bind_assoc, wp_deviceId]
  iintro ⟨Hxl, Hal, Hw⟩ Hk
  iapply (load_own c (M := xlM) (r := hiR) (fun _ => rfl)) $$ Hxl
  iintro Hxl
  iapply (load_pts c alM (A m ρ (xp c))) $$ Hal
  iintro Hal
  iapply (load_g0 m c) $$ Hw
  iintro Hw
  iapply (load_d0 m c) $$ Hw
  iintro Hw
  iapply (load_g1 m c) $$ Hw
  iintro Hw
  iapply (load_d1 m c) $$ Hw
  iintro Hw
  iapply Hk
  iframe

/-- The ninth piece: that chunk's sum sent back; the own first chunk and its assignments read. -/
theorem part9 {v2 v5 v6 : BitVec 32} {y y' : FVec F S256x1024 .f32} {b : IVec S256x1 1} (hy : k0_pay15 y y' b = Y1 m ρ c)
    {k : (Σ' (v262 : FVec F S256x1024 .bf16) (v267 : IVec S256x1 32) (v268 : FVec F S256x1024 .f32) (v270 : BitVec 32), Vec F S1x1024x2048 .bf16) → Prog (TpuEff nD τ sig (Elt F) Λ₀ .tc) α} :
    iprop(recs m ρ K ∗ OW c 6 ∗ anyOwn c (hi ysM) ∗ lndAny 4 (peer 4 c) ∗ rdy c 4 ∗ pts c cc0_stg0_0 (xb m ρ c) ∗ pts c cc0_stg1_0 (ab m ρ c) ∗ wts m c)
      ⊢ iprop(((OW c 7 ∗ fly c 4 ∗ pts c cc0_stg0_0 (xb m ρ c) ∗ pts c cc0_stg1_0 (ab m ρ c) ∗ wts m c)
            -∗ run c (k ⟨k0_pay16 (xr0 m ρ c), k0_pay17 (ar0 m ρ c), k0_pay18, Scalar.addi (Scalar.muli v2 2#32) 0#32, u0 m c⟩) Q)
          -∗ run c (onBufs (k0_part9_skel (F := F)) c v2 v5 v6 y y' b >>= k) Q) := by
  unfold onBufs k0_part9_skel
  simp only [semSignalWord, semWaitWord, Prog.lift, Prog.bind_op, Prog.bind_ret, Prog.pure_eq_ret, Prog.bind_assoc, wp_deviceId]
  simp only [send4, recv4]
  rw [hy]
  iintro ⟨#HR, HO, Hys, H4, Hr, Hx, Ha, Hw⟩ Hk
  iapply (over_own c (M := ysM) (r := hiR) (w := Y1 m ρ c) (fun _ => rfl)) $$ Hys
  iintro Hys
  iapply (send m ρ K c 4 6 (X := Y1 m ρ c) (dev7_eq c) rfl rfl (any_of c (hi ysM) _)
    (Entails.of_eq (by unfold lndPay; rw [show peer 4 c = xp c from rfl, xp_xp])) rfl) $$ [HO Hys H4 Hr]
  · iframe # ∗
  iintro ⟨HO, Hf⟩
  iapply (load_pts c xM (xb m ρ c)) $$ Hx
  iintro Hx
  iapply (load_pts c aM (ab m ρ c)) $$ Ha
  iintro Ha
  iapply (load_g0 m c) $$ Hw
  iintro Hw
  iapply Hk
  iframe

/-- The tenth piece: the own experts' part of the own first chunk. -/
theorem part10 {v2 v270 : BitVec 32} {x : FVec F S256x1024 .bf16} {a : IVec S256x1 32} {z : FVec F S256x1024 .f32} {w : Vec F S1x1024x2048 .bf16}
    {k : FVec F S256x1024 .f32 → Prog (TpuEff nD τ sig (Elt F) Λ₀ .tc) α} :
    (wts m c : sProp 𝕄) ⊢ iprop((wts m c -∗ run c (k (k0_pay19 v2 x a z v270 w (e0 m c) (u1 m c) (e1 m c))) Q)
      -∗ run c (onBufs (k0_part10_skel (F := F)) v2 x a z v270 w >>= k) Q) := by
  unfold onBufs k0_part10_skel
  simp only [semSignalWord, semWaitWord, Prog.lift, Prog.bind_op, Prog.bind_ret, Prog.pure_eq_ret, Prog.bind_assoc, wp_deviceId]
  iintro Hw Hk
  iapply (load_d0 m c) $$ Hw
  iintro Hw
  iapply (load_g1 m c) $$ Hw
  iintro Hw
  iapply (load_d1 m c) $$ Hw
  iintro Hw
  iapply Hk
  iexact Hw

/-- The result block as stored so far. -/
abbrev outs (f : (cc0_stg2_0 : Ref sig .tc).ty.Contents (Elt F)) (L : List (View.Piece (Elt F) S1024x1024 .f32)) : sProp 𝕄 :=
  pts c cc0_stg2_0 (oM.view.writes (Elt F) f L)

/-- The eleventh piece: the returned first chunk has come; the finished chunk is stored and narrowed. -/
theorem part11 {v2 v5 v6 v7 : BitVec 32} {f : (cc0_stg2_0 : Ref sig .tc).ty.Contents (Elt F)} {k : PUnit → Prog (TpuEff nD τ sig (Elt F) Λ₀ .tc) α} :
    iprop(recs m ρ K ∗ levAts L lv ∗ OW c 7 ∗ fly c 3 ∗ outs c f [] ∗ anyOwn c (lo hsM))
      ⊢ iprop(((OW c 7 ∗ done c 3 ∗ anyOwn c (lo ysM) ∗ owns (c : Thread nD τ) (lo ylM) fullShare (Y0 m ρ (xp c))
            ∗ outs c f [⟨x0R c, P0 m ρ c⟩] ∗ owns (c : Thread nD τ) (lo hsM) fullShare (H0 m ρ c)) -∗ run c (k ⟨⟩) Q)
          -∗ run c (onBufs (k0_part11_skel (F := F)) c v2 v5 v6 v7 (Q0 m ρ c) >>= k) Q) := by
  unfold onBufs k0_part11_skel
  simp only [semSignalWord, semWaitWord, Prog.lift, Prog.bind_op, Prog.bind_ret, Prog.pure_eq_ret, Prog.bind_assoc, wp_deviceId]
  simp only [send3, recv3]
  iintro ⟨#HR, #HL, HO, Hf, Ho, Hhs⟩ Hk
  iapply (waitS m ρ K c 3 7 (by decide) (dst := (lo ysM)) rfl) $$ [HO Hf]
  · iframe # ∗
  iintro ⟨HO, Hf, Hys⟩
  iapply (waitV m ρ K c 3 7 (by decide) (dst := (lo ylM)) rfl) $$ [HO Hf]
  · iframe # ∗
  iintro ⟨HO, Hf, Hyl⟩
  dsimp only [sndPay, lndPay]
  iapply (load_own c (M := ylM) (r := loR) (fun _ => rfl)) $$ Hyl
  iintro Hyl
  iapply (over_out c oM (r := x0R c) (w := P0 m ρ c) f []) $$ Ho
  iintro Ho
  iapply (over_own c (M := hsM) (r := loR) (w := H0 m ρ c) (fun _ => rfl)) $$ Hhs
  iintro Hhs
  iapply Hk
  iframe

/-- The twelfth piece: the finished chunk sent along the row; the first expert's term for the own second chunk. -/
theorem part12 {v5 : BitVec 32}
    {k : (Σ' (v343 : FVec F S256x1024 .bf16) (v348 : IVec S256x1 32) (v367 : FVec F S256x1024 .f32) (v369 : BitVec 32), FVec F S1024x2048 .bf16) → Prog (TpuEff nD τ sig (Elt F) Λ₀ .tc) α} :
    iprop(recs m ρ K ∗ OW c 7 ∗ owns (c : Thread nD τ) (lo hsM) fullShare (H0 m ρ c) ∗ lndAny 5 (peer 5 c) ∗ rdy c 5
        ∗ pts c cc0_stg0_0 (xb m ρ c) ∗ pts c cc0_stg1_0 (ab m ρ c) ∗ wts m c)
      ⊢ iprop(((OW c 8 ∗ fly c 5 ∗ pts c cc0_stg0_0 (xb m ρ c) ∗ pts c cc0_stg1_0 (ab m ρ c) ∗ wts m c)
            -∗ run c (k ⟨k0_pay22 (xr1 m ρ c), k0_pay23 (ar1 m ρ c), k0_pay24 (mx c) (xr1 m ρ c) (ar1 m ρ c) (u0 m c) (e0 m c),
                Scalar.addi (Scalar.muli (mx c) 2#32) 1#32, k0_pay25 (u1 m c)⟩) Q)
          -∗ run c (onBufs (k0_part12_skel (F := F)) c (mx c) v5 >>= k) Q) := by
  unfold onBufs k0_part12_skel
  simp only [semSignalWord, semWaitWord, Prog.lift, Prog.bind_op, Prog.bind_ret, Prog.pure_eq_ret, Prog.bind_assoc, wp_deviceId]
  simp only [send5, recv5]
  iintro ⟨#HR, HO, Hhs, H5, Hr, Hx, Ha, Hw⟩ Hk
  iapply (send m ρ K c 5 7 (X := H0 m ρ c) (dev8_eq c) rfl rfl (any_of c (lo hsM) _)
    (Entails.of_eq (by unfold lndPay; rw [show peer 5 c = yp c from rfl, yp_yp])) rfl) $$ [HO Hhs H5 Hr]
  · iframe # ∗
  iintro ⟨HO, Hf⟩
  iapply (load_pts c xM (xb m ρ c)) $$ Hx
  iintro Hx
  iapply (load_pts c aM (ab m ρ c)) $$ Ha
  iintro Ha
  iapply (load_g0 m c) $$ Hw
  iintro Hw
  iapply (load_d0 m c) $$ Hw
  iintro Hw
  iapply (load_g1 m c) $$ Hw
  iintro Hw
  iapply Hk
  iframe

/-- The thirteenth piece: the returned second chunk has come and completes the second chunk. -/
theorem part13 {v5 v6 : BitVec 32} {k : (Σ' (v400 : FVec F S256x1024 .f32), BitVec 32) → Prog (TpuEff nD τ sig (Elt F) Λ₀ .tc) α} :
    iprop(recs m ρ K ∗ levAts L lv ∗ OW c 8 ∗ fly c 4 ∗ wts m c)
      ⊢ iprop(((OW c 8 ∗ done c 4 ∗ wts m c ∗ anyOwn c (hi ysM) ∗ owns (c : Thread nD τ) (hi ylM) fullShare (Y1 m ρ (xp c)))
            -∗ run c (k ⟨P1 m ρ c, Scalar.addi (Scalar.muli v5 512#32) 256#32⟩) Q)
          -∗ run c (onBufs (k0_part13_skel (F := F)) v5 v6 (k0_pay22 (xr1 m ρ c)) (k0_pay23 (ar1 m ρ c)) (k0_pay24 (mx c) (xr1 m ρ c) (ar1 m ρ c) (u0 m c) (e0 m c))
              (Scalar.addi (Scalar.muli (mx c) 2#32) 1#32) (k0_pay25 (u1 m c)) >>= k) Q) := by
  unfold onBufs k0_part13_skel
  simp only [semSignalWord, semWaitWord, Prog.lift, Prog.bind_op, Prog.bind_ret, Prog.pure_eq_ret, Prog.bind_assoc, wp_deviceId]
  simp only [send4, recv4]
  iintro ⟨#HR, #HL, HO, Hf, Hw⟩ Hk
  iapply (load_d1 m c) $$ Hw
  iintro Hw
  iapply (waitS m ρ K c 4 8 (by decide) (dst := (hi ysM)) rfl) $$ [HO Hf]
  · iframe # ∗
  iintro ⟨HO, Hf, Hys⟩
  iapply (waitV m ρ K c 4 8 (by decide) (dst := (hi ylM)) rfl) $$ [HO Hf]
  · iframe # ∗
  iintro ⟨HO, Hf, Hyl⟩
  dsimp only [sndPay, lndPay]
  iapply (load_own c (M := ylM) (r := hiR) (fun _ => rfl)) $$ Hyl
  iintro Hyl
  iapply Hk
  iframe

/-- The fourteenth piece: the second chunk stored, narrowed and sent along the row. -/
theorem part14 {v2 v7 v : BitVec 32} {f : (cc0_stg2_0 : Ref sig .tc).ty.Contents (Elt F)} {k : PUnit → Prog (TpuEff nD τ sig (Elt F) Λ₀ .tc) α} :
    iprop(recs m ρ K ∗ levAts L lv ∗ OW c 8 ∗ outs c f [⟨x0R c, P0 m ρ c⟩] ∗ anyOwn c (hi hsM) ∗ lndAny 6 (peer 6 c) ∗ rdy c 6 ∗ fly c 5)
      ⊢ iprop(((OW c 9 ∗ outs c f [⟨x1R c, P1 m ρ c⟩, ⟨x0R c, P0 m ρ c⟩] ∗ fly c 6 ∗ gone c 5 ∗ anyOwn c (lo hsM)) -∗ run c (k ⟨⟩) Q)
          -∗ run c (onBufs (k0_part14_skel (F := F)) c v2 v7 (P1 m ρ c) v >>= k) Q) := by
  unfold onBufs k0_part14_skel
  simp only [semSignalWord, semWaitWord, Prog.lift, Prog.bind_op, Prog.bind_ret, Prog.pure_eq_ret, Prog.bind_assoc, wp_deviceId]
  simp only [send6, recv6, send5]
  iintro ⟨#HR, #HL, HO, Ho, Hhs, H6, Hr, Hf⟩ Hk
  iapply (over_out c oM (r := x1R c) (w := P1 m ρ c) f [⟨x0R c, P0 m ρ c⟩]) $$ Ho
  iintro Ho
  iapply (over_own c (M := hsM) (r := hiR) (w := H1 m ρ c) (fun _ => rfl)) $$ Hhs
  iintro Hhs
  iapply (send m ρ K c 6 8 (X := H1 m ρ c) (dev9_eq c) rfl rfl (any_of c (hi hsM) _)
    (Entails.of_eq (by unfold lndPay; rw [show peer 6 c = yp c from rfl, yp_yp])) rfl) $$ [HO Hhs H6 Hr]
  · iframe # ∗
  iintro ⟨HO, Hf6⟩
  iapply (waitS m ρ K c 5 9 (by decide) (dst := (lo hsM)) rfl) $$ [HO Hf]
  · iframe # ∗
  iintro ⟨HO, Hf, Hlo⟩
  dsimp only [sndPay]
  iapply Hk
  iframe

end Cert.Exchange
-- ==== Proof.Body.lean ====
/-
# The whole body

The pieces chained: from the buffers as a launch hands them over, each destination still the device's own, to the
finished result block, every buffer back and every semaphore at zero.
-/
module

public import proofs.«01_k».proof.Proof.Parts

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)
variable {α : Type} {Q : α → sProp (MT nD τ sig Unit (Elt F) ℕ UU ℕ)}

/-- The assignment block without the half handed over, and the two put together again. -/
def aRest : sProp 𝕄 := ((c : Thread nD τ).loc cc0_stg1_0) ↦[Finset.univ \ (aM.view.slice (aR c)).set]{fullShare} (ab m ρ c)
theorem a_split : (pts c cc0_stg1_0 (ab m ρ c) : sProp 𝕄) ⊢ iprop(owns (c : Thread nD τ) (aH c) fullShare (A m ρ c) ∗ aRest m ρ c) := by
  unfold aRest
  iintro H
  ihave H := (pointsTo_split_subset (Finset.subset_univ (aM.view.slice (aR c)).set)).1 $$ H
  icases H with ⟨H, Hr⟩
  isplitl [H]
  · iapply (owns_intro (c : Thread nD τ) (aH c) fullShare (ab m ρ c)) $$ H
  iexact Hr
theorem a_join : iprop(owns (c : Thread nD τ) (aH c) fullShare (A m ρ c) ∗ aRest m ρ c) ⊢ (pts c cc0_stg1_0 (ab m ρ c) : sProp 𝕄) := by
  unfold aRest
  have e : (owns (c : Thread nD τ) (aH c) fullShare (A m ρ c) : sProp 𝕄) ⊢ _ :=
    Entails.of_eq (owns_slice_read (c : Thread nD τ) aM fullShare (aR c) (fun _ => rfl) (ab m ρ c))
  iintro ⟨H, Hr⟩
  ihave H := e $$ H
  iapply (pointsTo_split_subset (Finset.subset_univ (aM.view.slice (aR c)).set)).2
  isplitl [H]
  · iexact H
  iexact Hr

/-- The two chunks of a sent buffer, each with anything in it. -/
def two (M : Memref sig .tc .vmem S512x1024 .bf16) : sProp 𝕄 := iprop(anyOwn c (lo M) ∗ anyOwn c (hi M))
/-- The two slots of each store of matrices, each with anything in it. -/
def slots : sProp 𝕄 :=
  iprop((anyOwn c (w1bM.slice g0R (fun _ => rfl)) ∗ anyOwn c (w1bM.slice g1R (fun _ => rfl)))
    ∗ anyOwn c (w2bM.slice d0R (fun _ => rfl)) ∗ anyOwn c (w2bM.slice d1R (fun _ => rfl)))

/-- What a device still owes a move for at the start: its raises, its wait, its transfers. -/
def todo : sProp 𝕄 :=
  iprop(dutyTok ER (bCell (xp c)) 0 false ∗ dutyTok ER (bCell (yp c)) 0 true ∗ (cred (tallyAt (bCell c) () 2) ∗ atPos ER (bCell c) 0 ∅ 0)
    ∗ rdy c 0 ∗ rdy c 1 ∗ rdy c 2 ∗ rdy c 3 ∗ rdy c 4 ∗ rdy c 5 ∗ rdy c 6)
/-- The same at the end: its semaphores at zero. -/
def idle : sProp 𝕄 :=
  iprop(semVal (bCell c) 0 ∗ done c 0 ∗ done c 1 ∗ done c 2 ∗ done c 3 ∗ done c 4 ∗ done c 5 ∗ done c 6)
/-- The buffers the body writes on the way, with anything in them. -/
def scratch : sProp 𝕄 :=
  iprop(two c xsM ∗ two c xlM ∗ anyOwn c alM ∗ two c ysM ∗ two c ylM ∗ two c hsM ∗ two c hlM ∗ slots c)

theorem scratch_lnd : (scratch c : sProp 𝕄)
    ⊢ iprop((two c xsM ∗ two c ysM ∗ two c hsM ∗ slots c) ∗ barPay false (xp c) ∗ barPay true (yp c)) := by
  unfold scratch two
  iintro ⟨Hxs, ⟨H0, H1⟩, H2, Hys, ⟨H3, H4⟩, Hhs, ⟨H5, H6⟩, Hs⟩
  isplitl [Hxs Hys Hhs Hs]
  · iframe
  isplitl [H0 H1 H2 H3 H4]
  · iapply (Entails.of_eq (barPay_x (F := F) (xp c)).symm)
    rw [xp_xp]; dsimp only [lndAny]
    isplitl [H0]; · iexact H0
    isplitl [H1]; · iexact H1
    isplitl [H2]; · iexact H2
    isplitl [H3]; · iexact H3
    iexact H4
  · iapply (Entails.of_eq (barPay_y (F := F) (yp c)).symm)
    rw [yp_yp]; dsimp only [lndAny]
    isplitl [H5]; · iexact H5
    iexact H6

/-- A program that is over. -/
theorem run_ret {a : α} : Q a ⊢ run c (.ret a) Q := by unfold run; rw [wp_ret]; iintro H; imodintro; iexact H

/-- What the body starts from, and what it leaves. -/
def pre (f : (cc0_stg2_0 : Ref sig .tc).ty.Contents (Elt F)) : sProp 𝕄 :=
  iprop(OW c 0 ∗ todo c ∗ pts c cc0_stg0_0 (xb m ρ c) ∗ pts c cc0_stg1_0 (ab m ρ c) ∗ outs c f [] ∗ fetching m c ∗ scratch c)
def post (f : (cc0_stg2_0 : Ref sig .tc).ty.Contents (Elt F)) : sProp 𝕄 :=
  iprop(OW c 9 ∗ idle c ∗ pts c cc0_stg0_0 (xb m ρ c) ∗ pts c cc0_stg1_0 (ab m ρ c) ∗ outs c f (outPieces m ρ c) ∗ fetching m c ∗ scratch c)

set_option maxHeartbeats 1600000 in
set_option maxRecDepth 8000 in
/-- All but the last two steps of the body. -/
theorem part15 (f : (cc0_stg2_0 : Ref sig .tc).ty.Contents (Elt F)) {Q : (Σ' (d0 : Dev nD), BitVec 32) → sProp 𝕄} :
    iprop(recs m ρ K ∗ levAts L lv ∗ pre m ρ c f)
      ⊢ iprop(((OW c 9 ∗ idle c ∗ pts c cc0_stg0_0 (xb m ρ c) ∗ pts c cc0_stg1_0 (ab m ρ c)
            ∗ outs c f [⟨f0R c, k0_pay28 (H0 m ρ (yp c))⟩, ⟨x1R c, P1 m ρ c⟩, ⟨x0R c, P0 m ρ c⟩] ∗ fetching m c
            ∗ (two c xsM ∗ two c xlM ∗ anyOwn c alM ∗ two c ysM ∗ two c ylM ∗ two c hsM ∗ anyOwn c (lo hlM) ∗ slots c)
            ∗ owns (c : Thread nD τ) (hi hlM) fullShare (H1 m ρ (yp c))) -∗ Q ⟨c, Scalar.remsi (Scalar.divsi (Dev.word c) 1#32) 2#32⟩)
          -∗ run c (onBufs (k0_part15_skel (F := F))) Q) := by
  unfold onBufs k0_part15_skel pre todo
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  iintro ⟨#HR, #HL, HO, ⟨Htx, Hty, Hbar, Hr0, Hr1, Hr2, Hr3, Hr4, Hr5, Hr6⟩, Hx, Ha, Ho, Hft, Hsc⟩ Hk
  ihave Hsc := (scratch_lnd c) $$ Hsc
  icases Hsc with ⟨⟨Hxs, Hys, Hhs, Hsl⟩, Hbx, Hby⟩
  unfold two slots
  icases Hxs with ⟨Hxs0, Hxs1⟩
  icases Hys with ⟨Hys0, Hys1⟩
  icases Hhs with ⟨Hhs0, Hhs1⟩
  icases Hsl with ⟨⟨Hg0, Hg1⟩, Hd0, Hd1⟩
  ihave Ha := (a_split m ρ c) $$ Ha
  icases Ha with ⟨Ha, Har⟩
  iapply (part1 m ρ K c) $$ [HO Htx Hbx Hty Hby Hbar Ha Hr2]
  · iframe # ∗
  iintro ⟨HO, Hbar, ⟨H0, H1, H3, H4⟩, ⟨H5, H6⟩, Hf2⟩
  iapply (part2 m ρ K c) $$ [HO Hx Hxs0 Hxs1 H0 Hr0]
  · iframe # ∗
  iintro ⟨HO, Hx, Hxs1, Hf0⟩
  iapply (part3 m ρ K c) $$ [HO Hxs1 H1 Hr1 Hft Hg0 Hd0]
  · iframe # ∗
  iintro %v ⟨HO, Hf1, Hft, Hg0, Hd0⟩
  iapply (part4 m c) $$ [HO Hft Hd0 Hg1 Hd1]
  · iframe # ∗
  iintro ⟨HO, Hft, Hd0, Hg1, Hd1⟩
  iapply (part5 m ρ K c) $$ [HO Hd1 Hf2 Hf0]
  · iframe # ∗
  iintro ⟨HO, Hd1, Hf2, Hf0, Ha, Hal, Hxs0, Hxl0⟩
  ihave Hw : (wts m c) $$ [Hg0 Hg1 Hd0 Hd1]
  · unfold wts; iframe
  ihave Ha := (a_join m ρ c) $$ [Ha Har]
  · iframe
  iapply (part6 m c) $$ Hw
  iintro Hw
  iapply (part7 m ρ K c rfl) $$ [HO Hys0 H3 Hr3 Hf1]
  · iframe # ∗
  iintro ⟨HO, Hf3, Hf1, Hxs1, Hxl1⟩
  iapply (part8 m ρ c) $$ [Hxl1 Hal Hw]
  · iframe
  iintro ⟨Hxl1, Hal, Hw⟩
  iapply (part9 m ρ K c rfl) $$ [HO Hys1 H4 Hr4 Hx Ha Hw]
  · iframe # ∗
  iintro ⟨HO, Hf4, Hx, Ha, Hw⟩
  iapply (part10 m c) $$ Hw
  iintro Hw
  iapply (part11 m ρ K c (f := f)) $$ [HO Hf3 Ho Hhs0]
  · iframe # ∗
  iintro ⟨HO, Hf3, Hys0, Hyl0, Ho, Hhs0⟩
  iapply (part12 m ρ K c) $$ [HO Hhs0 H5 Hr5 Hx Ha Hw]
  · iframe # ∗
  iintro ⟨HO, Hf5, Hx, Ha, Hw⟩
  iapply (part13 m ρ K c) $$ [HO Hf4 Hw]
  · iframe # ∗
  iintro ⟨HO, Hf4, Hw, Hys1, Hyl1⟩
  iapply (part14 m ρ K c (f := f)) $$ [HO Ho Hhs1 H6 Hr6 Hf5]
  · iframe # ∗
  iintro ⟨HO, Ho, Hf6, Hf5, Hhs0⟩
  simp only [Prog.lift, Prog.bind_op, Prog.bind_ret, Prog.pure_eq_ret]
  simp only [send6, recv6, recv5]
  iapply (waitV m ρ K c 5 9 (by decide) (dst := lo hlM) rfl) $$ [HO Hf5]
  · iframe # ∗
  iintro ⟨HO, Hf5, Hhl0⟩
  dsimp only [lndPay]
  iapply (load_own c (M := hlM) (r := loR) (fun _ => rfl)) $$ Hhl0
  iintro Hhl0
  iapply (over_out c oM (r := f0R c) (w := k0_pay28 (H0 m ρ (yp c))) f [⟨x1R c, P1 m ρ c⟩, ⟨x0R c, P0 m ρ c⟩]) $$ Ho
  iintro Ho
  iapply (waitS m ρ K c 6 9 (by decide) (dst := hi hsM) rfl) $$ [HO Hf6]
  · iframe # ∗
  iintro ⟨HO, Hf6, Hhs1⟩
  iapply (waitV m ρ K c 6 9 (by decide) (dst := hi hlM) rfl) $$ [HO Hf6]
  · iframe # ∗
  iintro ⟨HO, Hf6, Hhl1⟩
  dsimp only [sndPay, lndPay]
  iapply (run_ret c)
  iapply Hk
  unfold idle
  isplitl [HO]; · iexact HO
  isplitl [Hbar Hf0 Hf1 Hf2 Hf3 Hf4 Hf5 Hf6]; · iframe
  isplitl [Hx]; · iexact Hx
  isplitl [Ha]; · iexact Ha
  isplitl [Ho]; · iexact Ho
  isplitl [Hft]; · iexact Hft
  isplitr [Hhl1]; swap
  · iexact Hhl1
  isplitl [Hxs0 Hxs1]; · iframe
  isplitl [Hxl0 Hxl1]
  · isplitl [Hxl0]
    · iapply (any_of c (lo xlM) _) $$ Hxl0
    · iapply (any_of c (hi xlM) _) $$ Hxl1
  isplitl [Hal]
  · iapply ((Entails.of_eq (owns_whole (c : Thread nD τ) cc0_scratch2 fullShare (A m ρ (xp c))).symm).trans (any_of c alM _)) $$ Hal
  isplitl [Hys0 Hys1]; · iframe
  isplitl [Hyl0 Hyl1]
  · isplitl [Hyl0]
    · iapply (any_of c (lo ylM) _) $$ Hyl0
    · iapply (any_of c (hi ylM) _) $$ Hyl1
  isplitl [Hhs0 Hhs1]; · iframe
  isplitl [Hhl0]
  · iapply (any_of c (lo hlM) _) $$ Hhl0
  unfold wts
  icases Hw with ⟨Hg0, Hg1, Hd0, Hd1⟩
  isplitl [Hg0 Hg1]
  · isplitl [Hg0]
    · iapply (any_of c (w1bM.slice g0R (fun _ => rfl)) _) $$ Hg0
    · iapply (any_of c (w1bM.slice g1R (fun _ => rfl)) _) $$ Hg1
  · isplitl [Hd0]
    · iapply (any_of c (w2bM.slice d0R (fun _ => rfl)) _) $$ Hd0
    · iapply (any_of c (w2bM.slice d1R (fun _ => rfl)) _) $$ Hd1

/-- The body of a device: from its buffers, its moves and its peers' leave to write, to the finished block. -/
theorem sound (f : (cc0_stg2_0 : Ref sig .tc).ty.Contents (Elt F)) {Q : PUnit → sProp 𝕄} :
    iprop(recs m ρ K ∗ levAts L lv ∗ pre m ρ c f)
      ⊢ iprop((post m ρ c f -∗ Q ⟨⟩) -∗ run c (onBufs (cc0_body (F := F))) Q) := by
  rw [cc0_body_eq_skeleton]
  unfold onBufs cc0_body_skel run
  rw [k0_part15_eq_skeleton, wp_bind]
  iintro H Hk
  iapply (part15 m ρ K c f) $$ H
  iintro ⟨HO, Hi, Hx, Ha, Ho, Hft, ⟨H1, H2, H3, H4, H5, H6, Hlo, H7⟩, Hhi⟩
  simp only [Prog.lift, Prog.bind_op, Prog.bind_ret, Prog.pure_eq_ret]
  iapply (load_own c (M := hlM) (r := hiR) (fun _ => rfl)) $$ Hhi
  iintro Hhi
  iapply (over_out c oM (r := f1R c) (w := k0_pay1 (H1 m ρ (yp c))) f
    [⟨f0R c, k0_pay28 (H0 m ρ (yp c))⟩, ⟨x1R c, P1 m ρ c⟩, ⟨x0R c, P0 m ρ c⟩]) $$ Ho
  iintro Ho
  iapply (run_ret c)
  iapply Hk
  unfold post scratch two
  isplitl [HO]; · iexact HO
  isplitl [Hi]; · iexact Hi
  isplitl [Hx]; · iexact Hx
  isplitl [Ha]; · iexact Ha
  isplitl [Ho]; · iexact Ho
  isplitl [Hft]; · iexact Hft
  ihave Hhi := (any_of c (hi hlM) _) $$ Hhi
  iframe

end Cert.Exchange
-- ==== Proof.Whole.lean ====
/-
# Whole buffers and their parts

A buffer held whole is its two chunks, or its two slots, held each; and four pieces of the result that cover it leave
the same contents whatever was there before.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-- A whole memref is two rectangles of it that meet nowhere and leave nothing out. -/
theorem halves_set {s : Shape} {e : EltTy} (M : Memref sig .tc .vmem s e) (hM : M.view.set = Finset.univ) (r₀ r₁ : Rect s)
    (hc : ∀ y : s.Idx, y ∈ r₀.set ∨ y ∈ r₁.set) : (M.view.slice r₀).set ∪ (M.view.slice r₁).set = Finset.univ := by
  rw [View.set_slice, View.set_slice, ← Finset.map_union, ← hM]
  have : r₀.set ∪ r₁.set = Finset.univ := Finset.eq_univ_of_forall fun y => Finset.mem_union.mpr (hc y)
  rw [this]; rfl
theorem halves_disj {s : Shape} {e : EltTy} (M : Memref sig .tc .vmem s e) (r₀ r₁ : Rect s) (hd : Disjoint r₀.set r₁.set) :
    Disjoint (M.view.slice r₀).set (M.view.slice r₁).set := by
  rw [View.set_slice, View.set_slice]; exact (Finset.disjoint_map _).mpr hd

/-- Holding a buffer is holding two parts of it, -/
theorem halve {s : Shape} {e : EltTy} (M : Memref sig .tc .vmem s e) (hM : M.view.set = Finset.univ) {r₀ r₁ : Rect s}
    (h₀ : ∀ a, r₀.stride a = 1) (h₁ : ∀ a, r₁.stride a = 1) (hd : Disjoint r₀.set r₁.set) (hc : ∀ y : s.Idx, y ∈ r₀.set ∨ y ∈ r₁.set) :
    iprop(∃ f : Buf (Elt F) (M.view.loc (c : Thread nD τ)), (M.view.loc (c : Thread nD τ)) ↦{fullShare} f)
      ⊢ (iprop(anyOwn c (M.slice r₀ h₀) ∗ anyOwn c (M.slice r₁ h₁)) : sProp 𝕄) := by
  rw [← halves_set M hM r₀ r₁ hc]
  iintro ⟨%f, H⟩
  ihave H := (pointsTo_union (halves_disj M r₀ r₁ hd)).1 $$ H
  icases H with ⟨H0, H1⟩
  unfold anyOwn
  isplitl [H0]
  · iexists _; iapply (owns_intro (c : Thread nD τ) (M.slice r₀ h₀) fullShare f) $$ H0
  · iexists _; iapply (owns_intro (c : Thread nD τ) (M.slice r₁ h₁) fullShare f) $$ H1
/-- and the two parts are the buffer again. -/
theorem whole {s : Shape} {e : EltTy} (M : Memref sig .tc .vmem s e) (hM : M.view.set = Finset.univ) {r₀ r₁ : Rect s}
    (h₀ : ∀ a, r₀.stride a = 1) (h₁ : ∀ a, r₁.stride a = 1) (hd : Disjoint r₀.set r₁.set) (hc : ∀ y : s.Idx, y ∈ r₀.set ∨ y ∈ r₁.set) :
    (iprop(anyOwn c (M.slice r₀ h₀) ∗ anyOwn c (M.slice r₁ h₁)) : sProp 𝕄)
      ⊢ iprop(∃ f : Buf (Elt F) (M.view.loc (c : Thread nD τ)), (M.view.loc (c : Thread nD τ)) ↦{fullShare} f) := by
  rw [← halves_set M hM r₀ r₁ hc]
  unfold anyOwn owns
  iintro ⟨⟨%X, %f, -, H0⟩, ⟨%Y, %g, -, H1⟩⟩
  iexists _
  iapply (pointsTo_join (halves_disj M r₀ r₁ hd))
  isplitl [H0] <;> iassumption

theorem chunks_disj : Disjoint loR.set hiR.set := Rect.unit_disjoint 0 (Or.inl (by decide))
theorem chunks_cover (y : S512x1024.Idx) : y ∈ loR.set ∨ y ∈ hiR.set := by
  have h0 : (y 0).val < 512 := (y 0).isLt
  have h1 : (y 1).val < 1024 := (y 1).isLt
  rw [Rect.mem_set_unit, Rect.mem_set_unit]
  rcases Nat.lt_or_ge (y 0).val 256 with h | h
  · left; intro a; fin_cases a
    · exact ⟨Nat.zero_le _, h⟩
    · exact ⟨Nat.zero_le _, h1⟩
  · right; intro a; fin_cases a
    · exact ⟨h, h0⟩
    · exact ⟨Nat.zero_le _, h1⟩
theorem slots1_disj : Disjoint g0R.set g1R.set := Rect.unit_disjoint 0 (Or.inl (by decide))
theorem slots1_cover (y : S2x1024x2048.Idx) : y ∈ g0R.set ∨ y ∈ g1R.set := by
  have h0 : (y 0).val < 2 := (y 0).isLt
  have h1 : (y 1).val < 1024 := (y 1).isLt
  have h2 : (y 2).val < 2048 := (y 2).isLt
  rw [Rect.mem_set_unit, Rect.mem_set_unit]
  rcases Nat.lt_or_ge (y 0).val 1 with h | h
  · left; intro a; fin_cases a
    · exact ⟨Nat.zero_le _, h⟩
    · exact ⟨Nat.zero_le _, h1⟩
    · exact ⟨Nat.zero_le _, h2⟩
  · right; intro a; fin_cases a
    · exact ⟨h, h0⟩
    · exact ⟨Nat.zero_le _, h1⟩
    · exact ⟨Nat.zero_le _, h2⟩
theorem slots2_disj : Disjoint d0R.set d1R.set := Rect.unit_disjoint 0 (Or.inl (by decide))
theorem slots2_cover (y : S2x2048x1024.Idx) : y ∈ d0R.set ∨ y ∈ d1R.set := by
  have h0 : (y 0).val < 2 := (y 0).isLt
  have h1 : (y 1).val < 2048 := (y 1).isLt
  have h2 : (y 2).val < 1024 := (y 2).isLt
  rw [Rect.mem_set_unit, Rect.mem_set_unit]
  rcases Nat.lt_or_ge (y 0).val 1 with h | h
  · left; intro a; fin_cases a
    · exact ⟨Nat.zero_le _, h⟩
    · exact ⟨Nat.zero_le _, h1⟩
    · exact ⟨Nat.zero_le _, h2⟩
  · right; intro a; fin_cases a
    · exact ⟨h, h0⟩
    · exact ⟨Nat.zero_le _, h1⟩
    · exact ⟨Nat.zero_le _, h2⟩

/-- A whole buffer of device `c`, with anything in it. -/
abbrev buf (b : Ref sig .tc) : sProp 𝕄 := iprop(∃ f : Buf (Elt F) ((c : Thread nD τ).loc b), ((c : Thread nD τ).loc b) ↦{fullShare} f)
theorem buf_any (b : Ref sig .tc) : (anyOwn c (Memref.whole b) : sProp 𝕄) = buf c b := by
  unfold anyOwn; simp only [owns_whole]

/-- The scratch buffers whole, as a launch hands them over, are the scratch the body works on, -/
theorem scratch_in : (iprop(buf c cc0_scratch0 ∗ buf c cc0_scratch1 ∗ buf c cc0_scratch2 ∗ buf c cc0_scratch3 ∗ buf c cc0_scratch4
      ∗ buf c cc0_scratch5 ∗ buf c cc0_scratch6 ∗ buf c cc0_scratch7 ∗ buf c cc0_scratch8) : sProp 𝕄) ⊢ scratch c := by
  unfold scratch slots two
  iintro ⟨H0, H1, H2, H3, H4, H5, H6, H7, H8⟩
  isplitl [H0]
  · iapply (halve c xsM (View.set_whole _) _ _ chunks_disj chunks_cover) $$ H0
  isplitl [H1]
  · iapply (halve c xlM (View.set_whole _) _ _ chunks_disj chunks_cover) $$ H1
  isplitl [H2]
  · iapply (Entails.of_eq (buf_any c cc0_scratch2).symm) $$ H2
  isplitl [H3]
  · iapply (halve c ysM (View.set_whole _) _ _ chunks_disj chunks_cover) $$ H3
  isplitl [H4]
  · iapply (halve c ylM (View.set_whole _) _ _ chunks_disj chunks_cover) $$ H4
  isplitl [H5]
  · iapply (halve c hsM (View.set_whole _) _ _ chunks_disj chunks_cover) $$ H5
  isplitl [H6]
  · iapply (halve c hlM (View.set_whole _) _ _ chunks_disj chunks_cover) $$ H6
  isplitl [H7]
  · iapply (halve c w1bM (View.set_whole _) _ _ slots1_disj slots1_cover) $$ H7
  · iapply (halve c w2bM (View.set_whole _) _ _ slots2_disj slots2_cover) $$ H8
/-- and back. -/
theorem scratch_out : (scratch c : sProp 𝕄) ⊢ iprop(buf c cc0_scratch0 ∗ buf c cc0_scratch1 ∗ buf c cc0_scratch2 ∗ buf c cc0_scratch3 ∗ buf c cc0_scratch4
      ∗ buf c cc0_scratch5 ∗ buf c cc0_scratch6 ∗ buf c cc0_scratch7 ∗ buf c cc0_scratch8) := by
  unfold scratch slots two
  iintro ⟨H0, H1, H2, H3, H4, H5, H6, H7, H8⟩
  isplitl [H0]
  · iapply (whole c xsM (View.set_whole _) _ _ chunks_disj chunks_cover) $$ H0
  isplitl [H1]
  · iapply (whole c xlM (View.set_whole _) _ _ chunks_disj chunks_cover) $$ H1
  isplitl [H2]
  · iapply (Entails.of_eq (buf_any c cc0_scratch2)) $$ H2
  isplitl [H3]
  · iapply (whole c ysM (View.set_whole _) _ _ chunks_disj chunks_cover) $$ H3
  isplitl [H4]
  · iapply (whole c ylM (View.set_whole _) _ _ chunks_disj chunks_cover) $$ H4
  isplitl [H5]
  · iapply (whole c hsM (View.set_whole _) _ _ chunks_disj chunks_cover) $$ H5
  isplitl [H6]
  · iapply (whole c hlM (View.set_whole _) _ _ chunks_disj chunks_cover) $$ H6
  isplitl [H7]
  · iapply (whole c w1bM (View.set_whole _) _ _ slots1_disj slots1_cover) $$ H7
  · iapply (whole c w2bM (View.set_whole _) _ _ slots2_disj slots2_cover) $$ H8

/-! ## The result block -/

/-- Where the four pieces of the result lie. -/
theorem x0_off : (x0R c).off = ![512 * (c.val % 2), 0] := (k0_off2_eq c 0).trans (by simp)
theorem x1_off : (x1R c).off = ![512 * (c.val % 2) + 256, 0] := k0_off2_eq c 1
theorem f0_off : (f0R c).off = ![512 - 512 * (c.val % 2), 0] := (k0_off4_eq c 0).trans (by simp)
theorem f1_off : (f1R c).off = ![768 - 512 * (c.val % 2), 0] := k0_off4_eq c 1

/-- Four pieces of the result at these places leave no place out, -/
theorem cover_four (w3 w2 w1 w0 : S256x1024.Idx → Elt F .f32) (y : S1024x1024.Idx) :
    ∃ p ∈ ([⟨f1R c, w3⟩, ⟨f0R c, w2⟩, ⟨x1R c, w1⟩, ⟨x0R c, w0⟩] : List (View.Piece (Elt F) S1024x1024 .f32)), y ∈ p.1.set := by
  have h0 : (y 0).val < 1024 := (y 0).isLt
  have h1 : (y 1).val < 1024 := (y 1).isLt
  have key (r : Rect S1024x1024) (o : ℕ) (ho : r.off = ![o, 0]) (hs : r.size = S256x1024.size) (ht : ∀ a, r.stride a = 1)
      (hl : o ≤ (y 0).val) (hu : (y 0).val < o + 256) : y ∈ r.set := by
    refine r.mem_set.mpr fun a => ?_
    rw [ho, hs, ht a]
    fin_cases a
    · exact ⟨(y 0).val - o, show (y 0).val - o < 256 by omega, show (y 0).val = o + 1 * ((y 0).val - o) by omega⟩
    · exact ⟨(y 1).val, h1, show (y 1).val = 0 + 1 * (y 1).val by omega⟩
  have hp : c.val % 2 = 0 ∨ c.val % 2 = 1 := Nat.mod_two_eq_zero_or_one _
  have q0 := key (x0R c) _ (x0_off c) rfl (fun _ => rfl)
  have q1 := key (x1R c) _ (x1_off c) rfl (fun _ => rfl)
  have q2 := key (f0R c) _ (f0_off c) rfl (fun _ => rfl)
  have q3 := key (f1R c) _ (f1_off c) rfl (fun _ => rfl)
  rcases (by omega : (512 * (c.val % 2) ≤ (y 0).val ∧ (y 0).val < 512 * (c.val % 2) + 256)
      ∨ (512 * (c.val % 2) + 256 ≤ (y 0).val ∧ (y 0).val < 512 * (c.val % 2) + 256 + 256)
      ∨ (512 - 512 * (c.val % 2) ≤ (y 0).val ∧ (y 0).val < 512 - 512 * (c.val % 2) + 256)
      ∨ (768 - 512 * (c.val % 2) ≤ (y 0).val ∧ (y 0).val < 768 - 512 * (c.val % 2) + 256)) with h | h | h | h
  · exact ⟨⟨x0R c, w0⟩, List.mem_cons_of_mem _ (List.mem_cons_of_mem _ (List.mem_cons_of_mem _ List.mem_cons_self)), q0 h.1 h.2⟩
  · exact ⟨⟨x1R c, w1⟩, List.mem_cons_of_mem _ (List.mem_cons_of_mem _ List.mem_cons_self), q1 h.1 h.2⟩
  · exact ⟨⟨f0R c, w2⟩, List.mem_cons_of_mem _ List.mem_cons_self, q2 h.1 h.2⟩
  · exact ⟨⟨f1R c, w3⟩, List.mem_cons_self, q3 h.1 h.2⟩

/-- and pieces that leave no place out leave the same contents over any. -/
theorem writes_any (f g : (cc0_stg2_0 : Ref sig .tc).ty.Contents (Elt F)) (L : List (View.Piece (Elt F) S1024x1024 .f32))
    (h : ∀ y, ∃ p ∈ L, y ∈ p.1.set) : oM.view.writes (Elt F) f L = oM.view.writes (Elt F) g L :=
  View.read_writes_of_cover oM.view f oM.view g L h

/-- The result block of device `c` when the body is done. -/
def outAt : (cc0_stg2_0 : Ref sig .tc).ty.Contents (Elt F) := oM.view.writes (Elt F) (m ((c : Thread nD τ).loc cc0_stg2_0)) (outPieces m ρ c)
theorem outAt_eq (f : (cc0_stg2_0 : Ref sig .tc).ty.Contents (Elt F)) : oM.view.writes (Elt F) f (outPieces m ρ c) = outAt m ρ c := by
  unfold outAt
  exact writes_any f _ _ (cover_four c _ _ _ _)

end Cert.Exchange
-- ==== Proof.Fund.lean ====
/-
# What a run is given at its start, dealt to the devices

The invariants of all the cells, made from their counters at zero; the duty tokens, each dealt to the device that
pays the duty; and for every cell raised by others, the credit of what will arrive at it.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

def cells : Finset (GSem nD τ sig) := Finset.univ.map ⟨kcell, kcell_injective⟩

/-- The duties of a device's own cells: two at the barrier, one at each transfer cell. -/
abbrev TI : Type := Bool ⊕ (Bool × Fin 7)
abbrev tokOf (ct : Dev nD × TI) : GSem nD τ sig × ℕ × Bool := match ct.2 with
  | .inl d => (kcell (ct.1, none), 0, d)
  | .inr bk => (kcell (ct.1, some bk), 0, false)
theorem tokOf_injective : Function.Injective tokOf := by
  rintro ⟨c, t⟩ ⟨c', t'⟩ h
  have hk := congrArg (fun x : GSem nD τ sig × ℕ × Bool => x.1) h
  have hd := congrArg (fun x : GSem nD τ sig × ℕ × Bool => x.2.2) h
  rcases t with d | bk <;> rcases t' with d' | bk' <;> have hk := kcell_injective hk <;> simp_all
def allToks : Finset (GSem nD τ sig × ℕ × Bool) := Finset.univ.map ⟨tokOf, tokOf_injective⟩

def u₀ : UU :=
  (initOf (Pipeline.cells cfgs cellOf_inj) (Pipeline.launchToks cfgs cellOf_inj), (initOf cells allToks, (1 : Counters)))

/-- The tokens of the duties at device `c`'s own cells, -/
def toks (c : Dev nD) : sProp 𝕄 :=
  iprop((dutyTok ER (bCell c) 0 false ∗ dutyTok ER (bCell c) 0 true)
    ∗ (bigSep Finset.univ fun k => dutyTok ER (xC false k c) 0 false) ∗ bigSep Finset.univ fun k => dutyTok ER (xC true k c) 0 false)
/-- and of the duties device `c` pays. -/
def pays (c : Dev nD) : sProp 𝕄 :=
  iprop((dutyTok ER (bCell (xp c)) 0 false ∗ dutyTok ER (bCell (yp c)) 0 true)
    ∗ (bigSep Finset.univ fun k => dutyTok ER (xC false k c) 0 false) ∗ bigSep Finset.univ fun k => dutyTok ER (xC true k (peer k c)) 0 false)

/-- What the initial ghost state deals device `c`. -/
def G (c : Dev nD) : sProp 𝕄 :=
  iprop((bigSep Finset.univ fun i : CI => roundState ER (Rd m ρ) (kcell (c, i)) 0)
    ∗ (bigSep Finset.univ fun i : CI => iprop(atPos ER (kcell (c, i)) 0 ∅ 0 ∗ reached ER (kcell (c, i)) 0)) ∗ toks c)
/-- What device `c` has once the invariants are in place. -/
def G' (c : Dev nD) : sProp 𝕄 :=
  iprop(∃ K, recs m ρ K ∗ (bigSep Finset.univ fun i : CI => atPos ER (kcell (c, i)) 0 ∅ 0) ∗ pays c
    ∗ bigSep Finset.univ fun j => semVal ((c : Thread nD τ), .dma (cS j)) 0)

theorem bigSep_two (Φ : Bool → sProp 𝕄) : bigSep Finset.univ Φ = iprop(Φ false ∗ Φ true) :=
  bigSep_univ_eq_bigSepL [false, true] (by decide) (by decide) Φ
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- Over the cells of a device: the barrier, and the two cells of every transfer. -/
theorem bigSep_CI (Φ : CI → sProp 𝕄) : bigSep Finset.univ Φ
    = iprop(Φ none ∗ (bigSep Finset.univ fun k => Φ (some (false, k))) ∗ bigSep Finset.univ fun k => Φ (some (true, k))) := by
  rw [bigSep_univ_equiv ((Equiv.sumComm Unit (Bool × Fin 7)).trans (Equiv.optionEquivSumPUnit (Bool × Fin 7)).symm) Φ, bigSep_univ_sum, bigSep_univ_prod, bigSep_two,
    Finset.univ_unique, bigSep_singleton]; rfl

theorem fund_cells : BI.own (ER (initOf cells allToks)) ⊢ (|==> bigSep Finset.univ (G m ρ) : sProp 𝕄) := by
  have hX (Φ : GSem nD τ sig → sProp 𝕄) : bigSep cells Φ = bigSep Finset.univ fun c : Dev nD => bigSep Finset.univ fun i : CI => Φ (kcell (c, i)) := by
    unfold cells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_prod, bigSep_two, bigSep_two]; rfl
  iintro HX
  imod (Rounds.fund ER (Rd m ρ) cells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe # ∗

/-! ## The semaphores -/

/-- The kernel's own semaphores: the transfers' and the copies'. -/
abbrev OI : Type := (Bool × Fin 7) ⊕ Bool
abbrev osem : OI → SemLoc sig | .inl bk => .dma (xS bk.1 bk.2) | .inr j => .dma (cS j)
theorem ownSemFacts : Pipeline.OwnSemFacts cfg0.spec osem := by decide

/-- They and the barrier, at zero, are the cells at zero and the copies' semaphores at zero. -/
theorem ownSems0_eq (c : Dev nD) : (Pipeline.ownSems0 (Ix := Unit) (Name := ℕ) (U := UU) (Lvl := ℕ) (Val := Elt F) (τ := τ) osem c : sProp 𝕄)
    = iprop(((bigSep Finset.univ fun k => semVal (xC false k c) 0) ∗ bigSep Finset.univ fun k => semVal (xC true k c) 0)
      ∗ bigSep Finset.univ fun j => semVal ((c : Thread nD τ), .dma (cS j)) 0) := by
  unfold Pipeline.ownSems0
  rw [bigSep_univ_sum, bigSep_univ_prod, bigSep_two]; rfl
theorem unscopedSems0_eq (c : Dev nD) : (unscopedSems0 c : sProp 𝕄) = semVal (bCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c
          ∗ bigSep Finset.univ fun j => semVal ((c : Thread nD τ), .dma (cS j)) 0) := by
  rw [ownSems0_eq, unscopedSems0_eq]
  unfold G
  iintro ⟨⟨Hx, Hc⟩, Hb, Hst, Hat, Htok⟩
  ihave Hv := (Entails.of_eq (bigSep_CI (fun i => (semVal (kcell (c, i)) 0 : sProp 𝕄))).symm) $$ [Hx Hb]
  · isplitl [Hb]; · iexact Hb
    iexact Hx
  imod (show iprop((bigSep Finset.univ fun i : CI => semVal (kcell (c, i)) 0) ∗ bigSep Finset.univ fun i : CI => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  iframe # ∗

/-- The tokens, dealt: each to the device that pays the duty. -/
theorem deal : (bigSep Finset.univ fun c : Dev nD => (toks c : sProp 𝕄)) ⊢ bigSep Finset.univ fun c : Dev nD => pays c := by
  have hv : (bigSep Finset.univ fun c : Dev nD => bigSep Finset.univ fun k => (dutyTok ER (xC true k c) 0 false : sProp 𝕄))
      = bigSep Finset.univ fun c : Dev nD => bigSep Finset.univ fun k => dutyTok ER (xC true k (peer k c)) 0 false := by
    rw [Pipeline.bigSep_univ_comm, Pipeline.bigSep_univ_comm (fun (c : Dev nD) k => (dutyTok ER (xC true k (peer k c)) 0 false : sProp 𝕄))]
    exact bigSep_congr fun k _ => bigSep_univ_equiv (prE (grp k)) (fun c : Dev nD => (dutyTok ER (xC true k c) 0 false : sProp 𝕄))
  unfold toks pays
  rw [bigSep_sep', bigSep_sep', bigSep_sep', bigSep_sep', bigSep_sep', bigSep_sep', hv,
    bigSep_univ_equiv (prE false) (fun c : Dev nD => (dutyTok ER (bCell c) 0 false : sProp 𝕄)),
    bigSep_univ_equiv (prE true) (fun c : Dev nD => (dutyTok ER (bCell c) 0 true : sProp 𝕄))]
  exact Entails.refl _

/-- A fact that can be used again serves every member of a family. -/
theorem along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c
          ∗ bigSep Finset.univ fun j => semVal ((c : Thread nD τ), .dma (cS j)) 0) : sProp 𝕄)
      ⊢ bigSep Finset.univ (G' m ρ) := by
  rw [bigSep_sep', bigSep_sep', bigSep_sep', ← bigSep_univ_prod (fun ci : Dev nD × CI => iprop(∃ κ : ℕ, cellInv ER (Rd m ρ) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok, Hc⟩
  ihave HK := (BI.bigSep_exists_pi Finset.univ (fun (ci : Dev nD × CI) (κ : ℕ) => (cellInv ER (Rd m ρ) κ (kcell ci) : sProp 𝕄))) $$ HI
  icases HK with ⟨%K, #HI⟩
  ihave Htk := (deal (F := F)) $$ Htok
  iapply (along (R := recs m ρ K) (Φ := fun c => iprop((bigSep Finset.univ fun i : CI => atPos ER (kcell (c, i)) 0 ∅ 0) ∗ pays c
      ∗ bigSep Finset.univ fun j => semVal ((c : Thread nD τ), .dma (cS j)) 0)) fun c _ => by
    unfold G'; iintro ⟨#HR, H⟩; iexists K; isplitr; · iexact HR
    iexact H)
  isplitr
  · unfold recs; isplitl; · iexact HI
    iexact HR
  · rw [bigSep_sep', bigSep_sep']
    iframe # ∗

/-- All the devices' semaphores and ghost state at once, to what each device starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of what will arrive -/

/-- What device `d` owes at the start. -/
def O₀ (d : Dev nD) : CellTallies nD τ sig Unit := owe d 0

theorem tally_apply (l : List (GSem nD τ sig × ℕ)) (g : GSem nD τ sig) :
    tally l g () = (l.map fun p => if p.1 = g then p.2 else 0).sum := by
  induction l with
  | nil => rfl
  | cons p l ih =>
    have : tally (p :: l) g () = tally l g () + tallyAt p.1 () p.2 g () := rfl
    rw [this, ih, List.map_cons, List.sum_cons, tallyAt_apply, Nat.add_comm]
    by_cases h : p.1 = g
    · rw [if_pos h, if_pos ⟨h.symm, rfl⟩]
    · rw [if_neg h, if_neg fun h' => h h'.1.symm]

theorem pr_eq_iff (b : Bool) (d c : Dev nD) : (pr b d = c) ↔ (d = pr b c) :=
  ⟨fun h => by rw [← h, pr_pr], fun h => by rw [h, pr_pr]⟩
theorem kc_iff (d c : Dev nD) (i j : CI) : (((d : Thread nD τ), csem i) = (((c : Thread nD τ), csem j) : GSem nD τ sig)) ↔ (d = c ∧ i = j) :=
  ⟨fun h => by have := kcell_injective (a₁ := (d, i)) (a₂ := (c, j)) h; simpa using this, fun h => by rw [h.1, h.2]⟩

theorem owed_bar (d c : Dev nD) : O₀ d (bCell c) () = (if d = pr false c then 1 else 0) + (if d = pr true c then 1 else 0) := by
  have e (b : Bool) (k : Fin 7) (d c : Dev nD) : ¬ (xC b k d = bCell c) := fun h => by
    have := (kc_iff d c (some (b, k)) none).mp h; simp at this
  have e' (d c : Dev nD) : (bCell d = bCell c) ↔ d = c := (kc_iff d c none none).trans (by simp)
  unfold O₀ owe
  rw [tally_apply]; unfold payList
  simp only [List.drop_zero, List.map_cons, List.map_nil, List.sum_cons, List.sum_nil, e, e', if_false]
  have hx : (xp d = c) ↔ (d = pr false c) := pr_eq_iff false d c
  have hy : (yp d = c) ↔ (d = pr true c) := pr_eq_iff true d c
  simp only [hx, hy]; omega

theorem owed_recv (d c : Dev nD) (k : Fin 7) : O₀ d (xC true k c) () = if d = peer k c then amt k else 0 := by
  have e (d c : Dev nD) : ¬ (bCell d = xC true k c) := fun h => by
    have := (kc_iff d c none (some (true, k))).mp h; simp at this
  have e' (j : Fin 7) (d c : Dev nD) : (xC true j d = xC true k c) ↔ d = c ∧ j = k := (kc_iff d c (some (true, j)) (some (true, k))).trans (by simp)
  unfold O₀ owe
  rw [tally_apply]; unfold payList peer
  simp only [List.drop_zero, List.map_cons, List.map_nil, List.sum_cons, List.sum_nil, e, e', if_false, pr_eq_iff]
  fin_cases k <;> simp

theorem launch_bar (c : Dev nD) :
    tallyOn (bCell c) (launchCredit (Pipeline.owing O₀) 0 (bCell c)) = (tallyAt (bCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pr false c) fun _ => 1, Finset.sum_ite_eq' Finset.univ (pr true c) fun _ => 1, if_pos (Finset.mem_univ _), if_pos (Finset.mem_univ _)]
theorem launch_recv (c : Dev nD) (k : Fin 7) :
    tallyOn (xC true k c) (launchCredit (Pipeline.owing O₀) 0 (xC true k c)) = (tallyAt (xC true k c) () (amt k) : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer k c) fun _ => amt k,
    if_pos (Finset.mem_univ _)]

theorem creds (c : Dev nD) :
    (Pipeline.launchCred O₀ c : sProp 𝕄) ⊢ iprop(cred (tallyAt (bCell c) () 2) ∗ bigSep Finset.univ fun k => cred (tallyAt (xC true k c) () (amt k))) := by
  unfold Pipeline.launchCred
  refine (bigSep_subset (Finset.subset_univ (Finset.univ.map ⟨csem, csem_injective⟩))).trans ?_
  rw [bigSep_map, bigSep_CI]
  have h (P Q R : sProp 𝕄) : iprop(P ∗ Q ∗ R) ⊢ iprop(P ∗ R) := by
    iintro ⟨HP, -, HR⟩
    isplitl [HP] <;> iassumption
  exact (h _ _ _).trans (BI.sep_mono (Entails.of_eq (congrArg cred (launch_bar c)))
    (bigSep_mono fun k _ => Entails.of_eq (congrArg cred (launch_recv c k))))

end Cert.Exchange
-- ==== Proof.Run.lean ====
/-
# The run

From any memory, the four devices run to the end; each result block is then what the body leaves, every argument is
as it was, and every counter is at zero.
-/
module

public import proofs.«01_k».proof.Proof.Whole
public import proofs.«01_k».proof.Proof.Fund
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tokens, positions and credits of a device, put together as what it still has to do. -/
theorem todo_intro (c : Dev nD) :
    (iprop((bigSep Finset.univ fun i : CI => atPos ER (kcell (c, i)) 0 ∅ 0) ∗ pays c
      ∗ cred (tallyAt (bCell c) () 2) ∗ bigSep Finset.univ fun k => cred (tallyAt (xC true k c) () (amt k))) : sProp 𝕄) ⊢ todo c := by
  have h (k : Fin 7) : (rdy c k : sProp 𝕄) = iprop(dutyTok ER (xC false k c) 0 false ∗ dutyTok ER (xC true k (peer k c)) 0 false ∗ atPos ER (xC false k c) 0 ∅ 0
    ∗ atPos ER (xC true k c) 0 ∅ 0 ∗ cred (tallyAt (xC true k c) () (amt k))) := rfl
  have e : iprop((bigSep Finset.univ fun k => dutyTok ER (xC false k c) 0 false) ∗ (bigSep Finset.univ fun k => dutyTok ER (xC true k (peer k c)) 0 false)
      ∗ (bigSep Finset.univ fun k => atPos ER (xC false k c) 0 ∅ 0) ∗ (bigSep Finset.univ fun k => atPos ER (xC true k c) 0 ∅ 0)
      ∗ bigSep Finset.univ fun k => cred (tallyAt (xC true k c) () (amt k))) = (bigSep Finset.univ fun k => rdy c k : sProp 𝕄) := by
    rw [bigSep_congr fun k _ => h k, bigSep_sep', bigSep_sep', bigSep_sep', bigSep_sep']
  unfold todo pays
  rw [bigSep_CI]
  iintro ⟨⟨Hb, Hs, Hv⟩, ⟨⟨H0, H1⟩, H2, H3⟩, Hc, Hr⟩
  ihave H := (Entails.of_eq e) $$ [Hs Hv H2 H3 Hr]
  · iframe # ∗
  ihave H := (Entails.of_eq (bigSep_seven fun k => rdy c k)) $$ H
  isplitl [H0]; · iexact H0
  isplitl [H1]; · iexact H1
  isplitl [Hc Hb]
  · isplitl [Hc]; · iexact Hc
    iexact Hb
  iexact H

/-- The two ends of every transfer at zero. -/
theorem idle_exit (c : Dev nD) : (idle c : sProp 𝕄)
    ⊢ iprop(semVal (bCell c) 0 ∗ (bigSep Finset.univ fun k => semVal (xC false k c) 0) ∗ bigSep Finset.univ fun k => semVal (xC true k c) 0) := by
  have e : (bigSep Finset.univ fun k => done c k : sProp 𝕄)
      = iprop((bigSep Finset.univ fun k => semVal (xC false k c) 0) ∗ bigSep Finset.univ fun k => semVal (xC true k c) 0) := by
    unfold done; rw [bigSep_sep']
  unfold idle
  iintro ⟨Hb, H⟩
  isplitl [Hb]; · iexact Hb
  ihave H := (Entails.of_eq (bigSep_seven fun k => done c k).symm) $$ H
  iapply (Entails.of_eq e) $$ H

/-- What device `c` starts with beside its scratch. -/
def start (c : Dev nD) : sProp 𝕄 :=
  iprop(G' m ρ c ∗ (cred (tallyAt (bCell c) () 2) ∗ bigSep Finset.univ fun k => cred (tallyAt (xC true k c) () (amt k))) ∗ levAts L lv
    ∗ pts c main_arg2 (W1 m c) ∗ pts c main_arg3 (W2 m c))
/-- What the body starts from, and what it ends with, beside the windows. -/
def Φ₀ (c : Dev nD) : sProp 𝕄 := iprop((∃ K, recs m ρ K) ∗ levAts L lv ∗ todo c ∗ fetching m c ∗ scratch c)
def Φ₁ (c : Dev nD) : sProp 𝕄 := iprop(idle c ∗ fetching m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xb m ρ c
    | ⟨1, _⟩ => ab m ρ c
    | ⟨2, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = pts c b X := owns_whole _ _ _ _

/-! ## The body -/

def bodyPre (c : Dev nD) : sProp 𝕄 :=
  iprop(Φ₀ m ρ c ∗ (dats m ρ 0 c).owesAt () t0_0.castSucc
    ∗ (∃ d, pts c cc0_stg0_0 ((dats m ρ 0 c).before (0 : Fin 3) t0_0 d))
    ∗ (∃ d, pts c cc0_stg1_0 ((dats m ρ 0 c).before (1 : Fin 3) t0_0 d))
    ∗ (∃ d, pts c cc0_stg2_0 ((dats m ρ 0 c).before (2 : Fin 3) t0_0 d)))
def bodyPost (c : Dev nD) : sProp 𝕄 :=
  iprop(Φ₁ m c ∗ (dats m ρ 0 c).owesAt () t0_0.succ ∗ pts c cc0_stg0_0 (xb m ρ c) ∗ pts c cc0_stg1_0 (ab m ρ c) ∗ pts c cc0_stg2_0 (outAt m ρ c))

theorem owes_in (c : Dev nD) : ((dats m ρ 0 c).owesAt () t0_0.castSucc : sProp 𝕄) ⊢ OW c 0 := by
  unfold Dat.owesAt Pipeline.owesWithin OW
  iintro ⟨%W, %hW, HO⟩
  iexists W; iexact HO
theorem owes_out (c : Dev nD) : OW c 9 ⊢ ((dats m ρ 0 c).owesAt () t0_0.succ : sProp 𝕄) := by
  unfold Dat.owesAt Pipeline.owesWithin OW
  iintro ⟨%W, HO⟩
  iexists W
  isplitr; · ipureintro; exact fun _ _ => Or.inl trivial
  iexact HO
theorem before_x (c : Dev nD) (d) : (dats m ρ 0 c).before (0 : Fin 3) t0_0 d = xb m ρ c := by
  unfold Dat.before; rw [if_pos (fetch0_0 t0_0)]; rfl
theorem before_a (c : Dev nD) (d) : (dats m ρ 0 c).before (1 : Fin 3) t0_0 d = ab m ρ c := by
  unfold Dat.before; rw [if_pos (fetch0_1 t0_0)]; rfl

theorem sound_body (c : Dev nD) : bodyPre m ρ c ⊢ run c (onBufs (cc0_body (F := F))) (fun _ => bodyPost m ρ c) := by
  unfold bodyPre Φ₀
  iintro ⟨⟨⟨%K, #HR⟩, #HL, Ht, Hf, Hs⟩, Ho, ⟨%d0, Hx⟩, ⟨%d1, Ha⟩, ⟨%d2, Hout⟩⟩
  ihave Ho := (owes_in m ρ c) $$ Ho
  ihave Hx := (Entails.of_eq (congrArg (pts c cc0_stg0_0) (before_x m ρ c d0))) $$ Hx
  ihave Ha := (Entails.of_eq (congrArg (pts c cc0_stg1_0) (before_a m ρ c d1))) $$ Ha
  iapply (sound m ρ K c ((dats m ρ 0 c).before (2 : Fin 3) t0_0 d2) (Q := fun _ => bodyPost m ρ c)) $$ [Ho Ht Hx Ha Hout Hf Hs]
  · isplitr; · iexact HR
    isplitr; · iexact HL
    unfold pre
    isplitl [Ho]; · iexact Ho
    isplitl [Ht]; · iexact Ht
    isplitl [Hx]; · iexact Hx
    isplitl [Ha]; · iexact Ha
    isplitl [Hout]; · unfold outs; iexact Hout
    isplitl [Hf] <;> iassumption
  unfold post bodyPost Φ₁
  iintro ⟨Ho, Hi, Hx, Ha, Hout, Hf, Hs⟩
  isplitl [Hi Hf Hs]
  · iframe # ∗
  isplitl [Ho]; · iapply (owes_out m ρ c) $$ Ho
  isplitl [Hx]; · iexact Hx
  isplitl [Ha]; · iexact Ha
  unfold outs
  iapply (Entails.of_eq (congrArg (pts c cc0_stg2_0) (outAt_eq m ρ c _))) $$ Hout

set_option maxRecDepth 16384 in
theorem body_eq : defs₀ (F := F) Proc.tc 0 (t0_0, cfg0.slots t0_0) = onBufs (cc0_body (F := F)) := by
  unfold onBufs; rfl
set_option maxRecDepth 16384 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  have e0 : (dats m ρ 0 c).after (0 : Fin 3) t0_0 = xb m ρ c := rfl
  have e1 : (dats m ρ 0 c).after (1 : Fin 3) t0_0 = ab m ρ c := rfl
  have e2 : (dats m ρ 0 c).after (2 : Fin 3) t0_0 = outAt m ρ c := by dsimp only [dats]
  rw [body_eq, e0, e1, e2]
  exact sound_body m ρ c

/-! ## The start and the end -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have e : (Pipeline.unscopedRestP Pipeline.Prefetch.none cfg0.spec c (fun b => m ((c : Thread nD τ).loc b)) : sProp 𝕄)
      = iprop(pts c main_arg2 (W1 m c) ∗ pts c main_arg3 (W2 m c)) :=
    (Pipeline.unscopedRestP_none _ _ _).trans (unscopedRest0_eq c _)
  iintro ⟨Hw, Hlev, Hcr, -, HG⟩
  ihave Hw := (Entails.of_eq e) $$ Hw
  ihave Hc := (creds (F := F) c) $$ Hcr
  imodintro
  unfold start
  isplitl
  · iframe # ∗
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold start Φ₀ G' fetching
  iintro ⟨⟨⟨%K, #HR, Hat, Hp, Hcs⟩, Hc, #HL, Hw1, Hw2⟩, -, ⟨H0, H1, H2, H3, H4, H5, H6, H7, H8, H9, H10⟩⟩
  ihave Hcs := (Entails.of_eq (bigSep_two _)) $$ Hcs
  isplitr; · iexists K; iexact HR
  isplitr; · iexact HL
  isplitl [Hat Hp Hc]
  · iapply (todo_intro c); iframe # ∗
  isplitl [Hcs Hw1 Hw2 H9 H10]
  · isplitl [Hw1]; · iexact Hw1
    isplitl [Hw2]; · iexact Hw2
    isplitl [H9]; · iapply (Entails.of_eq (buf_any c cc0_scratch9).symm) $$ H9
    isplitl [H10]; · iapply (Entails.of_eq (buf_any c cc0_scratch10).symm) $$ H10
    iexact Hcs
  iapply (scratch_in c)
  iframe # ∗

/-- What device `c` is left with. -/
def Y (c : Dev nD) : sProp 𝕄 := iprop(unscopedSems0 c ∗ pts c main_arg2 (W1 m c) ∗ pts c main_arg3 (W2 m c))

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ Y fetching
  rw [unscopedSems0_eq]
  iintro ⟨Hi, ⟨Hw1, Hw2, H9, H10, Hcs⟩, Hs⟩
  ihave Hi := (idle_exit c) $$ Hi
  icases Hi with ⟨Hb, Hx⟩
  ihave Hs := (scratch_out c) $$ Hs
  icases Hs with ⟨H0, H1, H2, H3, H4, H5, H6, H7, H8⟩
  ihave H9 := (Entails.of_eq (buf_any c cc0_scratch9)) $$ H9
  ihave H10 := (Entails.of_eq (buf_any c cc0_scratch10)) $$ H10
  isplitl [Hb Hw1 Hw2]
  · iframe # ∗
  isplitl [Hx Hcs]
  · isplitl [Hx]; · iexact Hx
    iapply (Entails.of_eq (bigSep_two fun j => (semVal ((c : Thread nD τ), .dma (cS j)) 0 : sProp 𝕄)).symm) $$ Hcs
  iframe # ∗

theorem lv_stage (c : Dev nD) : ∀ (w : Fin cfg0.W) (s : Fin (cfg0.win w).nbuf), dec (.dma ((cfg0.win w).sem s)) = none := by decide
theorem waits (c : Dev nD) : (levAts L lv : sProp 𝕄) ⊢ Pipeline.cellsWaits cfgs (dats m ρ) () 0 c :=
  Pipeline.cellsWaits_intro cfgs (dats m ρ) () 0 c fun w s t => by
    have h : lv ((c : Thread nD τ), .dma ((cfg0.win w).sem s)) () = 0 := by
      dsimp only [lv]; rw [lv_stage c w s]
    rcases t with ⟨_ | _, ht⟩
    · exact mayWait c 0 _ (by rw [h]; decide)
    · exact mayWait c 9 _ (by rw [h]; decide)

/-! ## The run -/

def finalA (c : Dev nD) (w : Fin cfg0.W) : Buf (Elt F) ((cfg0.win w).arr.view.loc (c : Thread nD τ)) := (dats m ρ 0 c).arrAt w cfg0.N

/-- What holds of a final state: the windows' arrays hold what the body leaves, the weights what they held, and every counter is at zero. -/
def Ends (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg2) = m ((c : Thread nD τ).loc main_arg2) ∧ s.mem ((c : Thread nD τ).loc main_arg3) = m ((c : Thread nD τ).loc main_arg3)

set_option maxRecDepth 8000 in
/-- For any float values, from any memory with zero counters, every fair run ends as `Ends` says. -/
theorem run_main : θ_run defs (onTc (τ := τ) (main (F := F))) (s₀ m ρ) (fun r => Ends m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_cells m ρ) $$ HX with HG
      imodintro
      isplitl [HP] <;> iassumption)
    (hglob := glob m ρ)
    (hA := fun _ _ => rfl) (hpf := fun _ k => k.elim0)
    (X := start m ρ) (Y := Y m) (Z := fun _ => iprop(emp))
    (hX := start_intro m ρ) (hin := phi0_intro m ρ) (hout := phi1_exit m ρ)
    (QY := fun c s => (s.mem ((c : Thread nD τ).loc main_arg2) = m ((c : Thread nD τ).loc main_arg2) ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      unfold Y
      iintro ⟨⟨Hu, H1, H2⟩, -, HSI⟩
      icombine HSI H1 gives %h1
      icombine HSI H2 gives %h2
      imod (Pipeline.unscopedSems0_read (X := unscopedSems0 c) (c := c) fupd_intro s') $$ [Hu HSI] with ⟨%h3, HSI⟩
      · isplitl [Hu] <;> iassumption
      imodintro
      isplitr
      · ipureintro; exact ⟨⟨Buf.eq_of_forall_mem_univ h1, Buf.eq_of_forall_mem_univ h2⟩, h3⟩
      iexact HSI)
    (hQ := fun _ h hs => ⟨fun c => ⟨fun w => (h c).1 w, (h c).2.2.1⟩, sem_eq_zero hs fun c => (h c).2.2.2⟩)

/-- The windows of the arguments hold at the end what they held. -/
theorem finalA_x (c : Dev nD) : finalA m ρ c (0 : Fin 3) = m ((c : Thread nD τ).loc main_arg0) := (dats (F := F) m ρ 0 c).arrAt_in (0 : Fin 3) rfl _
theorem finalA_a (c : Dev nD) : finalA m ρ c (1 : Fin 3) = m ((c : Thread nD τ).loc main_arg1) := (dats (F := F) m ρ 0 c).arrAt_in (1 : Fin 3) rfl _

end Cert.Exchange
-- ==== Proof.Pay.lean ====
/-
# What the body computes, over the extended reals

A row of the result is, for each of the device's two experts, the expert's products of the row if the row is assigned to
it and zero if not, added up. The body says so four times, once for each chunk it is given and each of its own; over the
extended reals, where a change of format changes nothing, all four are one function of a row.
-/
module

public import proofs.«01_k».proof.Proof.Proto
public import Idealize.ShloMosaic.Lib.Pointwise

@[expose] public section

set_option maxRecDepth 16384

noncomputable section

namespace Cert.Exchange

open Cert.KernelIdeal Cert.KernelIdeal.Gen
open Idealize.ShloMosaic
open Idealize.ShloMosaic.TcCoe

/-- Column `k` of what one expert makes of a row: a product, the maximum with zero, a product. -/
def expert (x : Fin 1024 → EReal) (A : Fin 1024 → Fin 2048 → EReal) (B : Fin 2048 → Fin 1024 → EReal) (k : Fin 1024) : EReal :=
  ∑ j, max (∑ l, x l * A l j) 0 * B j k

/-- A number where the row is assigned to the expert, zero elsewhere. -/
def pick (a e : BitVec 32) (v : EReal) : EReal := Scalar.select (IntOp.cmpi .eq a e) v 0

/-- The number of a device's expert, as the body computes it. -/
abbrev num (c : Dev nD) (e : BitVec 32) : BitVec 32 := Scalar.addi (Scalar.muli (mx c) 2#32) e

section Payloads

variable (c : Dev nD) (xs : FVec Ideal S256x1024 .f32) (X : Vec Ideal S256x1024 .bf16) (a : Vec Ideal S256x1 .i32)
  (u0 u1 : Vec Ideal S1x1024x2048 .bf16) (e0 e1 : Vec Ideal S1x2048x1024 .bf16)

/-- Both experts' part of a row, the two added. -/
def part (x : Fin 1024 → EReal) (w : BitVec 32) (k : Fin 1024) : EReal :=
  pick w (num c 0#32) (expert x (fun l j => u0 (ix3 0 l j)) (fun j k => e0 (ix3 0 j k)) k)
    + pick w (num c 1#32) (expert x (fun l j => u1 (ix3 0 l j)) (fun j k => e1 (ix3 0 j k)) k)

/-- The first chunk of the peer's rows, -/
theorem peer_first (i : Fin 256) (k : Fin 1024) :
    k0_pay11 (k0_pay9 (mx c) X a (Scalar.ofBits .f32 0x00000000#32) u0 e0) (k0_pay10 (mx c) X a u1 e1) (ix2 i k)
      = part c u0 u1 e0 e1 (fun l => X (ix2 i l)) (a (ix2 i 0)) k := by
  pointwise [k0_pay11, k0_pay9, k0_pay10]
  rfl

/-- the second of them, -/
theorem peer_second (i : Fin 256) (k : Fin 1024) :
    k0_pay15 (k0_pay12 (mx c) X a u0 e0) (k0_pay13 X u1 e1) (k0_pay14 (mx c) a) (ix2 i k)
      = part c u0 u1 e0 e1 (fun l => X (ix2 i l)) (a (ix2 i 0)) k := by
  pointwise [k0_pay15, k0_pay12, k0_pay13, k0_pay14]
  rfl

/-- the first chunk of the own rows, -/
theorem own_first (i : Fin 256) (k : Fin 1024) :
    k0_pay19 (mx c) (k0_pay16 xs) (k0_pay17 a) k0_pay18 (num c 0#32) u0 e0 u1 e1 (ix2 i k)
      = part c u0 u1 e0 e1 (fun l => xs (ix2 i l)) (a (ix2 i 0)) k := by
  pointwise [k0_pay19, k0_pay16, k0_pay17, k0_pay18]
  rfl

/-- and the second, to which what came back is added: each is both experts' part of the row. -/
theorem own_second (Y : Vec Ideal S256x1024 .bf16) (i : Fin 256) (k : Fin 1024) :
    k0_pay26 (k0_pay22 xs) (k0_pay23 a) (k0_pay24 (mx c) xs a u0 e0) (num c 1#32) (k0_pay25 u1) e1 Y (ix2 i k)
      = part c u0 u1 e0 e1 (fun l => xs (ix2 i l)) (a (ix2 i 0)) k + Y (ix2 i k) := by
  pointwise [k0_pay26, k0_pay24, k0_pay25, k0_pay22, k0_pay23]
  rfl

end Payloads

/-! ## All four experts -/

/-- Column `k` of the row's result: the one of the four experts that the row is assigned to, zero if there is none. -/
def chosen (a : BitVec 32) (E : Fin 4 → EReal) : EReal :=
  Scalar.select (IntOp.cmpi .eq a 3#32) (E 3) (Scalar.select (IntOp.cmpi .eq a 2#32) (E 2)
    (Scalar.select (IntOp.cmpi .eq a 1#32) (E 1) (Scalar.select (IntOp.cmpi .eq a 0#32) (E 0) 0)))

/-- A choice by a comparison of words is a choice by their equality. -/
theorem select_test (a e : BitVec 32) (v z : EReal) : Scalar.select (IntOp.cmpi .eq a e) v z = if a = e then v else z := by
  by_cases h : a = e
  · subst h; rw [if_pos rfl, IntOp.cmpi_eq_self]; rfl
  · rw [if_neg h]
    have : IntOp.cmpi .eq a e = 0#1 := by simp only [IntOp.cmpi, beq_eq_false_iff_ne.mpr h]; rfl
    rw [this]; rfl

/-- Two experts' part and the other two's make the choice among all four. -/
theorem chosen_eq (a : BitVec 32) (E : Fin 4 → EReal) :
    (pick a 0#32 (E 0) + pick a 1#32 (E 1)) + (pick a 2#32 (E 2) + pick a 3#32 (E 3)) = chosen a E := by
  simp only [pick, chosen, select_test]
  by_cases h3 : a = 3#32
  · subst h3; simp
  by_cases h2 : a = 2#32
  · subst h2; simp
  by_cases h1 : a = 1#32
  · subst h1; simp
  by_cases h0 : a = 0#32
  · subst h0; simp
  simp [h0, h1, h2, h3]

/-- The number among the four of a device's expert `e`. -/
def ex (c : Dev nD) (e : Fin 2) : Fin 4 := ⟨2 * (c.val / 2) + e.val, by have := c.isLt; change c.val < 4 at this; omega⟩

/-- Whichever row of the mesh a device is in, its own experts and those of the device across are all four. -/
theorem both_rows (c : Dev nD) (a : BitVec 32) (E : Fin 4 → EReal) :
    (pick a (num c 0#32) (E (ex c 0)) + pick a (num c 1#32) (E (ex c 1)))
      + (pick a (num (xp c) 0#32) (E (ex (xp c) 0)) + pick a (num (xp c) 1#32) (E (ex (xp c) 1))) = chosen a E := by
  fin_cases c
  · exact chosen_eq a E
  · exact chosen_eq a E
  · exact (add_comm _ _).trans (chosen_eq a E)
  · exact (add_comm _ _).trans (chosen_eq a E)

end Cert.Exchange

end
-- ==== Proof.Read.lean ====
/-
# What the buffers hold of the whole arrays

The body's chunks and matrices, element by element, are elements of the arrays that the device was given.
-/
module

public import proofs.«01_k».proof.Proof.Run
public import proofs.«01_k».proof.Proof.Pay
public import Idealize.ShloMosaic.Lib.Layout

@[expose] public section

set_option maxRecDepth 16384

noncomputable section

namespace Cert.Exchange

open Cert.KernelIdeal Cert.KernelIdeal.Gen
open Idealize.ShloMosaic
open Idealize.ShloMosaic.TcCoe

variable (m : (ℓ : Loc nD τ sig) → Buf (Elt Ideal) ℓ) (ρ : Dev nD → PrngReg) (c : Dev nD)

/-- The one block of each window is its whole array. -/
theorem whole_x (f : (main_arg0 : Ref sig .tc).ty.Contents (Elt Ideal)) : (win0_0.blk t0_0).view.read (Elt Ideal) f = f :=
  funext fun y => congrArg f (Rect.emb_eq_of_coords (win0_0.rect t0_0) y y fun a => by match a with | ⟨0, _⟩ => exact ((Nat.zero_add _).trans (Nat.one_mul _)).symm | ⟨1, _⟩ => exact ((Nat.zero_add _).trans (Nat.one_mul _)).symm)
theorem whole_a (f : (main_arg1 : Ref sig .tc).ty.Contents (Elt Ideal)) : (win0_1.blk t0_0).view.read (Elt Ideal) f = f :=
  funext fun y => congrArg f (Rect.emb_eq_of_coords (win0_1.rect t0_0) y y fun a => by match a with | ⟨0, _⟩ => exact ((Nat.zero_add _).trans (Nat.one_mul _)).symm | ⟨1, _⟩ => exact ((Nat.zero_add _).trans (Nat.one_mul _)).symm)
theorem whole_o (f : (main_v1 : Ref sig .tc).ty.Contents (Elt Ideal)) : (win0_2.blk t0_0).view.read (Elt Ideal) f = f :=
  funext fun y => congrArg f (Rect.emb_eq_of_coords (win0_2.rect t0_0) y y fun a => by match a with | ⟨0, _⟩ => exact ((Nat.zero_add _).trans (Nat.one_mul _)).symm | ⟨1, _⟩ => exact ((Nat.zero_add _).trans (Nat.one_mul _)).symm)

theorem xb_eq : xb m ρ c = m ((c : Thread nD τ).loc main_arg0) := whole_x _
theorem ab_eq : ab m ρ c = m ((c : Thread nD τ).loc main_arg1) := whole_a _

theorem row_lt (c : Dev nD) : c.val < 4 := c.isLt

/-- Row `i` of chunk `r` of a device's own rows, in its block, -/
def place (c : Dev nD) (r : Fin 2) (i : Fin 256) : Fin 1024 := ⟨512 * (c.val % 2) + 256 * r.val + i.val, by omega⟩
/-- row `i` of a device's block, among all rows, -/
def rowOf (c : Dev nD) (i : Fin 1024) : Fin 2048 := ⟨1024 * (c.val / 2) + i.val, by have := row_lt c; omega⟩

/-- A rectangle of whole rows puts row `i` at its first row and `i` more. -/
theorem rows_emb {R C n o : ℕ} {off : Fin 2 → ℕ} (ho : off = ![o, 0])
    (inb : ∀ a, off a + (⟨2, ![n, C]⟩ : Shape).size a ≤ (⟨2, ![R, C]⟩ : Shape).size a) (i : Fin n) (k : Fin C) (p : Fin R)
    (hp : p.val = o + i.val) :
    (Rect.unit (s := ⟨2, ![R, C]⟩) off (⟨2, ![n, C]⟩ : Shape).size inb).emb (ix2 i k) = ix2 p k := by
  subst ho
  refine Rect.emb_eq_of_coords _ _ _ fun a => ?_
  match a with
  | ⟨0, _⟩ => exact hp.trans (congrArg (o + ·) (Nat.one_mul i.val).symm)
  | ⟨1, _⟩ => exact ((Nat.zero_add _).trans (Nat.one_mul k.val)).symm

theorem xr0_apply (i : Fin 256) (k : Fin 1024) : xr0 m ρ c (ix2 i k) = m ((c : Thread nD τ).loc main_arg0) (ix2 (place c 0 i) k) := by
  unfold xr0
  rw [xb_eq]
  exact congrArg (m ((c : Thread nD τ).loc main_arg0)) (rows_emb (k0_off2_eq c 0) (k0_off2_inb c 0) i k (place c 0 i) rfl)
theorem xr1_apply (i : Fin 256) (k : Fin 1024) : xr1 m ρ c (ix2 i k) = m ((c : Thread nD τ).loc main_arg0) (ix2 (place c 1 i) k) := by
  unfold xr1
  rw [xb_eq]
  exact congrArg (m ((c : Thread nD τ).loc main_arg0)) (rows_emb (k0_off2_eq c 1) (k0_off2_inb c 1) i k (place c 1 i) rfl)
theorem ar0_apply (i : Fin 256) : ar0 m ρ c (ix2 i 0) = m ((c : Thread nD τ).loc main_arg1) (ix2 (place c 0 i) 0) := by
  unfold ar0
  rw [ab_eq]
  exact congrArg (m ((c : Thread nD τ).loc main_arg1)) (rows_emb (k0_off3_eq c 0) (k0_off3_inb c 0) i 0 (place c 0 i) rfl)
theorem ar1_apply (i : Fin 256) : ar1 m ρ c (ix2 i 0) = m ((c : Thread nD τ).loc main_arg1) (ix2 (place c 1 i) 0) := by
  unfold ar1
  rw [ab_eq]
  exact congrArg (m ((c : Thread nD τ).loc main_arg1)) (rows_emb (k0_off3_eq c 1) (k0_off3_inb c 1) i 0 (place c 1 i) rfl)

/-- What is handed across is the chunk of rows itself, -/
theorem X0_apply (i : Fin 256) (k : Fin 1024) : X0 m ρ c (ix2 i k) = xr0 m ρ c (ix2 i k) := by
  unfold X0; pointwise [k0_pay2]
theorem X1_apply (i : Fin 256) (k : Fin 1024) : X1 m ρ c (ix2 i k) = xr1 m ρ c (ix2 i k) := by
  unfold X1; pointwise [k0_pay3]
/-- and half of the column. -/
theorem A_apply (r : Fin 2) (i : Fin 256) (p : Fin 512) (hp : p.val = 256 * r.val + i.val) :
    A m ρ c (ix2 p 0) = m ((c : Thread nD τ).loc main_arg1) (ix2 (place c r i) 0) := by
  unfold A
  rw [ab_eq]
  exact congrArg (m ((c : Thread nD τ).loc main_arg1)) (rows_emb (k0_off1_eq c) (k0_off1_inb c) p 0 (place c r i)
    (by rw [hp]; exact Nat.add_assoc _ _ _))
theorem ap0_apply (i : Fin 256) : ap0 m ρ c (ix2 i 0) = m ((xp c : Thread nD τ).loc main_arg1) (ix2 (place (xp c) 0 i) 0) := by
  refine Eq.trans ?_ (A_apply m ρ (xp c) 0 i ⟨i.val, by omega⟩ (Nat.zero_add _).symm)
  exact congrArg (A m ρ (xp c)) (rows_emb rfl inb_S512x1_S256x1_0_0 i 0 _ (Nat.zero_add _).symm)
theorem ap1_apply (i : Fin 256) : ap1 m ρ c (ix2 i 0) = m ((xp c : Thread nD τ).loc main_arg1) (ix2 (place (xp c) 1 i) 0) := by
  refine Eq.trans ?_ (A_apply m ρ (xp c) 1 i ⟨256 + i.val, by omega⟩ rfl)
  exact congrArg (A m ρ (xp c)) (rows_emb rfl inb_S512x1_S256x1_256_0 i 0 _ rfl)

/-! ## The weights -/

/-- A slab of a stack of matrices puts its one matrix at its place in the stack. -/
theorem slab_emb {R C n o : ℕ}
    (inb : ∀ a, (![o, 0, 0] : Fin 3 → ℕ) a + (⟨3, ![1, R, C]⟩ : Shape).size a ≤ (⟨3, ![n, R, C]⟩ : Shape).size a)
    (l : Fin R) (j : Fin C) (p : Fin n) (hp : p.val = o) :
    (Rect.unit (s := ⟨3, ![n, R, C]⟩) ![o, 0, 0] (⟨3, ![1, R, C]⟩ : Shape).size inb).emb (ix3 0 l j) = ix3 p l j := by
  refine Rect.emb_eq_of_coords _ _ _ fun a => ?_
  match a with
  | ⟨0, _⟩ => exact hp
  | ⟨1, _⟩ => exact ((Nat.zero_add _).trans (Nat.one_mul l.val)).symm
  | ⟨2, _⟩ => exact ((Nat.zero_add _).trans (Nat.one_mul j.val)).symm

theorem u0_apply (l : Fin 1024) (j : Fin 2048) : u0 m c (ix3 0 l j) = W1 m c (ix3 0 l j) := by
  unfold u0
  rw [Memref.read_squeeze_slice w1M g0R (fun _ => rfl) squeezes_S1x1024x2048_S1024x2048 shapeCasts_S1x1024x2048_S1024x2048]
  pointwise [k0_pay4]
  exact congrArg (W1 m c) (slab_emb inb_S2x1024x2048_S1x1024x2048_0_0_0 l j 0 rfl)
theorem u1_apply (l : Fin 1024) (j : Fin 2048) : u1 m c (ix3 0 l j) = W1 m c (ix3 1 l j) := by
  unfold u1
  rw [Memref.read_squeeze_slice w1M g1R (fun _ => rfl) squeezes_S1x1024x2048_S1024x2048 shapeCasts_S1x1024x2048_S1024x2048]
  pointwise [k0_pay7]
  exact congrArg (W1 m c) (slab_emb inb_S2x1024x2048_S1x1024x2048_1_0_0 l j 1 rfl)
theorem e0_apply (l : Fin 2048) (j : Fin 1024) : e0 m c (ix3 0 l j) = W2 m c (ix3 0 l j) := by
  unfold e0
  rw [Memref.read_squeeze_slice w2M d0R (fun _ => rfl) squeezes_S1x2048x1024_S2048x1024 shapeCasts_S1x2048x1024_S2048x1024]
  pointwise [k0_pay6, k0_pay5]
  exact congrArg (W2 m c) (slab_emb inb_S2x2048x1024_S1x2048x1024_0_0_0 l j 0 rfl)
theorem e1_apply (l : Fin 2048) (j : Fin 1024) : e1 m c (ix3 0 l j) = W2 m c (ix3 1 l j) := by
  unfold e1
  rw [Memref.read_squeeze_slice w2M d1R (fun _ => rfl) squeezes_S1x2048x1024_S2048x1024 shapeCasts_S1x2048x1024_S2048x1024]
  pointwise [k0_pay8]
  exact congrArg (W2 m c) (slab_emb inb_S2x2048x1024_S1x2048x1024_1_0_0 l j 1 rfl)

end Cert.Exchange

end
-- ==== Proof.Frames.lean ====
/-
# The frames

The exchange runs, leaves its arguments as they were and every semaphore at zero, whether its floats are bits or
extended reals: both are the one run with what it says of the result dropped. So does the reference.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Exchange

open Cert.KernelIdeal Cert.KernelIdeal.Gen
open Idealize.ShloMosaic Idealize.SL.Sem

variable {F : FTy → Type} [FloatOps F]

variable (m : (ℓ : Loc nD τ sig) → Buf (Elt F) ℓ) (ρ : Dev nD → PrngReg)

/-- Every argument is as it was, on every device, and every counter is at zero. -/
def Kept (s : MemSt nD τ sig (Elt F)) : Prop :=
  (∀ c : Dev nD,
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.sem = fun _ => 0

/-- At the end of the run every argument is as it was. -/
theorem run_kept : θ_run defs (onTc (τ := τ) (main (F := F))) ⟨m, fun _ => 0, ρ⟩ (fun r => Kept m r.2) :=
  (θ_run defs _ _).mono (fun _ h => ⟨fun c => ⟨((h.1 c).1 (0 : Fin 3)).trans (finalA_x m ρ c),
    ((h.1 c).1 (1 : Fin 3)).trans (finalA_a m ρ c), (h.1 c).2.1, (h.1 c).2.2⟩, h.2⟩) (run_main m ρ)

/-- The two programs' tables of bodies hold the same one body, -/
theorem bodies_eq : Cert.Kernel.defs₀ (F := F) = defs₀ (F := F) :=
  congrArg Defs.onTc (funext fun l => funext fun a => by
    obtain rfl : l = 0 := Subsingleton.elim (α := Fin 1) _ _
    rfl)
/-- so their tables with the launches are the same. -/
theorem tables_eq : Cert.Kernel.defs (F := F) = defs (F := F) := congrArg (Pipeline.defs pcfgs) bodies_eq

/-- The program over bits runs, keeps its arguments and ends with every counter at zero. -/
theorem frame_kernel : Cert.quiescent_Kernel := fun m ρ _ => by
  rw [tables_eq]
  exact run_kept (F := Bits) m ρ

/-- The same program over extended reals runs, keeps its arguments and ends with every counter at zero. -/
theorem frame_ideal : Cert.quiescent_KernelIdeal := fun m ρ _ => run_kept (F := Ideal) m ρ

/-- The reference runs, keeps its arguments, and has no counters to leave. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Value.lean ====
/-
# The exchange computes the reference's function

Every row of the result is one choice among four experts' products of that row. The device that owns a row makes two of
the experts' parts of it, the device across the mesh's rows the other two; the sum of the parts is the choice. Each
device's block of the result is its own rows and the rows its neighbour along the mesh's row finished, so all the blocks
are blocks of one array, which is the reference's.
-/
module

public import proofs.«01_k».proof.Proof.Read
public import proofs.«01_k».proof.Proof.Frames
public import Idealize.ShloMosaic.Lib.Pipeline.Value

@[expose] public section

set_option maxRecDepth 16384

noncomputable section

namespace Cert.Exchange

open Cert.KernelIdeal Cert.KernelIdeal.Gen
open Idealize.ShloMosaic Idealize.SL.Sem
open Idealize.ShloMosaic.TcCoe
open Idealize.ShloMosaic.Pipeline (Dat)

/-! ## The whole arrays -/

section Whole

variable (x : (⟨2, ![2048, 1024]⟩ : Shape).Idx → EReal) (a : (⟨2, ![2048, 1]⟩ : Shape).Idx → BitVec 32)
  (w1 : (⟨3, ![4, 1024, 2048]⟩ : Shape).Idx → EReal) (w2 : (⟨3, ![4, 2048, 1024]⟩ : Shape).Idx → EReal)

/-- Column `k` of what expert `e` makes of row `p` of the whole array. -/
def made (p : Fin 2048) (k : Fin 1024) (e : Fin 4) : EReal :=
  expert (fun l => x (ix2 p l)) (fun l j => w1 (ix3 e l j)) (fun j k => w2 (ix3 e j k)) k

/-- The whole result: each row what the expert it is assigned to makes of it. -/
def result : (⟨2, ![2048, 1024]⟩ : Shape).Idx → EReal := fun p => chosen (a (ix2 (p 0) 0)) (made x w1 w2 (p 0) (p 1))

variable (m : (ℓ : Loc nD τ sig) → Buf (Elt Ideal) ℓ) (ρ : Dev nD → PrngReg)

/-- Each device holds its rows of the whole arrays and its two experts' matrices. -/
structure Held : Prop where
  x : ∀ (c : Dev nD) (i : Fin 1024) (k : Fin 1024), m ((c : Thread nD τ).loc main_arg0) (ix2 i k) = x (ix2 (rowOf c i) k)
  a : ∀ (c : Dev nD) (i : Fin 1024), m ((c : Thread nD τ).loc main_arg1) (ix2 i 0) = a (ix2 (rowOf c i) 0)
  w1 : ∀ (c : Dev nD) (e : Fin 2) (l : Fin 1024) (j : Fin 2048), W1 m c (ix3 e l j) = w1 (ix3 (ex c e) l j)
  w2 : ∀ (c : Dev nD) (e : Fin 2) (j : Fin 2048) (k : Fin 1024), W2 m c (ix3 e j k) = w2 (ix3 (ex c e) j k)

variable {x a w1 w2 m} (h : Held x a w1 w2 m) (c : Dev nD)

include h

/-- A device's experts' part of a row, wherever the row came from. -/
theorem part_eq (p : Fin 2048) (w : BitVec 32) (k : Fin 1024) :
    part c (u0 m c) (u1 m c) (e0 m c) (e1 m c) (fun l => x (ix2 p l)) w k
      = pick w (num c 0#32) (made x w1 w2 p k (ex c 0)) + pick w (num c 1#32) (made x w1 w2 p k (ex c 1)) := by
  unfold part made
  simp only [u0_apply, u1_apply, e0_apply, e1_apply, h.w1, h.w2]

/-- A row of the own chunks, a row that the device across hands over. -/
theorem own_row (r : Fin 2) (i : Fin 256) (k : Fin 1024) :
    part c (u0 m c) (u1 m c) (e0 m c) (e1 m c) (fun l => m ((c : Thread nD τ).loc main_arg0) (ix2 (place c r i) l))
        (m ((c : Thread nD τ).loc main_arg1) (ix2 (place c r i) 0)) k
      + part (xp c) (u0 m (xp c)) (u1 m (xp c)) (e0 m (xp c)) (e1 m (xp c))
        (fun l => m ((c : Thread nD τ).loc main_arg0) (ix2 (place c r i) l))
        (m ((c : Thread nD τ).loc main_arg1) (ix2 (place c r i) 0)) k
      = result x a w1 w2 (ix2 (rowOf c (place c r i)) k) := by
  simp only [h.x, h.a]
  rw [part_eq h, part_eq h]
  exact both_rows c _ _

/-- What comes back from across the rows. -/
theorem Y0_apply (i : Fin 256) (k : Fin 1024) : Y0 m ρ (xp c) (ix2 i k)
    = part (xp c) (u0 m (xp c)) (u1 m (xp c)) (e0 m (xp c)) (e1 m (xp c))
        (fun l => m ((c : Thread nD τ).loc main_arg0) (ix2 (place c 0 i) l)) (m ((c : Thread nD τ).loc main_arg1) (ix2 (place c 0 i) 0)) k := by
  unfold Y0
  rw [peer_first, ap0_apply, xp_xp]
  simp only [X0_apply, xr0_apply]
theorem Y1_apply (i : Fin 256) (k : Fin 1024) : Y1 m ρ (xp c) (ix2 i k)
    = part (xp c) (u0 m (xp c)) (u1 m (xp c)) (e0 m (xp c)) (e1 m (xp c))
        (fun l => m ((c : Thread nD τ).loc main_arg0) (ix2 (place c 1 i) l)) (m ((c : Thread nD τ).loc main_arg1) (ix2 (place c 1 i) 0)) k := by
  unfold Y1
  rw [peer_second, ap1_apply, xp_xp]
  simp only [X1_apply, xr1_apply]

/-- The finished chunks are rows of the whole result. -/
theorem P0_apply (i : Fin 256) (k : Fin 1024) : P0 m ρ c (ix2 i k) = result x a w1 w2 (ix2 (rowOf c (place c 0 i)) k) := by
  have e : P0 m ρ c (ix2 i k) = Q0 m ρ c (ix2 i k) + Y0 m ρ (xp c) (ix2 i k) := by unfold P0; pointwise [k0_pay20]
  rw [e, Y0_apply ρ h]
  unfold Q0
  rw [own_first, ar0_apply]
  simp only [xr0_apply]
  exact own_row h c 0 i k
theorem P1_apply (i : Fin 256) (k : Fin 1024) : P1 m ρ c (ix2 i k) = result x a w1 w2 (ix2 (rowOf c (place c 1 i)) k) := by
  unfold P1
  rw [own_second, ar1_apply, Y1_apply ρ h]
  simp only [xr1_apply]
  exact own_row h c 1 i k

omit h in
/-- What goes along the row and is stored there is the finished chunk itself. -/
theorem H0_apply (i : Fin 256) (k : Fin 1024) : k0_pay28 (H0 m ρ c) (ix2 i k) = P0 m ρ c (ix2 i k) := by
  unfold H0 P0; pointwise [k0_pay28, k0_pay21, k0_pay20]
omit h in
theorem H1_apply (i : Fin 256) (k : Fin 1024) : k0_pay1 (H1 m ρ c) (ix2 i k) = P1 m ρ c (ix2 i k) := by
  unfold H1; pointwise [k0_pay1, k0_pay27]

variable (x a w1 w2) in
omit h in
/-- A device's block of the whole result. -/
def blockAt : S1024x1024.Idx → EReal := fun y => result x a w1 w2 (ix2 (rowOf c (y 0)) (y 1))

omit h in
/-- The neighbour along the row has the same block of rows, and the other half of it. -/
theorem rowOf_yp (i : Fin 1024) : rowOf (yp c) i = rowOf c i :=
  Fin.ext (by have := row_lt c; change 1024 * ((2 * (c.val / 2) + (1 - c.val % 2)) / 2) + i.val = 1024 * (c.val / 2) + i.val; omega)
omit h in
theorem place_yp0 (i : Fin 256) : (place (yp c) 0 i).val = 512 - 512 * (c.val % 2) + i.val := by
  change 512 * ((2 * (c.val / 2) + (1 - c.val % 2)) % 2) + 256 * 0 + i.val = _; omega
omit h in
theorem place_yp1 (i : Fin 256) : (place (yp c) 1 i).val = 768 - 512 * (c.val % 2) + i.val := by
  change 512 * ((2 * (c.val / 2) + (1 - c.val % 2)) % 2) + 256 * 1 + i.val = _; omega

omit h in
/-- Each piece of the result block is what the whole result has in its place, -/
theorem piece_eq (o : ℕ) {off : Fin 2 → ℕ} (ho : off = ![o, 0]) (inb : ∀ a, off a + S256x1024.size a ≤ S1024x1024.size a)
    (v : S256x1024.Idx → EReal) (r : Fin 2) (d : Dev nD) (hd : ∀ i, rowOf d i = rowOf c i) (hp : ∀ i, (place d r i).val = o + i.val)
    (hv : ∀ i k, v (ix2 i k) = result x a w1 w2 (ix2 (rowOf d (place d r i)) k)) (y : S256x1024.Idx) :
    v y = blockAt x a w1 w2 c ((Rect.unit (s := S1024x1024) off S256x1024.size inb).emb y) := by
  idx_vars y
  rw [hv, hd, rows_emb ho inb _ _ (place d r _) (hp _)]
  rfl

/-- all four are, -/
theorem pieces_eq : ∀ p ∈ outPieces m ρ c, ∀ y : p.1.shape.Idx, p.2 y = blockAt x a w1 w2 c (p.1.emb y) := by
  have e1 := piece_eq (x := x) (a := a) (w1 := w1) (w2 := w2) c _ (f1_off c) (k0_off4_inb c 1) (k0_pay1 (H1 m ρ (yp c))) 1 (yp c) (rowOf_yp c) (place_yp1 c)
    (fun i k => (H1_apply ρ (yp c) i k).trans (P1_apply ρ h (yp c) i k))
  have e2 := piece_eq (x := x) (a := a) (w1 := w1) (w2 := w2) c _ (f0_off c) (k0_off4_inb c 0) (k0_pay28 (H0 m ρ (yp c))) 0 (yp c) (rowOf_yp c) (place_yp0 c)
    (fun i k => (H0_apply ρ (yp c) i k).trans (P0_apply ρ h (yp c) i k))
  have e3 := piece_eq (x := x) (a := a) (w1 := w1) (w2 := w2) c _ (k0_off2_eq c 1) (k0_off2_inb c 1) (P1 m ρ c) 1 c (fun _ => rfl) (fun _ => rfl) (P1_apply ρ h c)
  have e4 := piece_eq (x := x) (a := a) (w1 := w1) (w2 := w2) c _ (k0_off2_eq c 0) (k0_off2_inb c 0) (P0 m ρ c) 0 c (fun _ => rfl) (fun _ => rfl) (P0_apply ρ h c)
  intro p hp
  unfold outPieces at hp
  rcases List.mem_cons.mp hp with rfl | hp
  · exact e1
  rcases List.mem_cons.mp hp with rfl | hp
  · exact e2
  rcases List.mem_cons.mp hp with rfl | hp
  · exact e3
  rcases List.mem_cons.mp hp with rfl | hp
  · exact e4
  exact absurd hp List.not_mem_nil

/-- so what a device leaves is its block of the whole result. -/
theorem outAt_whole : outAt m ρ c = blockAt x a w1 w2 c := by
  funext y
  have key := View.read_writes_apply_of_pieces oM.view (m ((c : Thread nD τ).loc cc0_stg2_0)) (blockAt x a w1 w2 c) (outPieces m ρ c)
    (pieces_eq ρ h c) y (by unfold outPieces; exact cover_four c _ _ _ _ y)
  rw [View.read_whole] at key
  unfold outAt
  exact key

omit h in
/-- The result's one block is its whole array. -/
theorem cover_out (i : S1024x1024.Idx) : ∃ t : Fin cfg0.N, (cfg0.win 2).flush t = true ∧ i ∈ ((cfg0.win 2).blk t).view.set := by
  refine ⟨t0_0, flush0_2 _, ?_⟩
  show i ∈ ((View.whole main_v1).slice (win0_2.rect t0_0)).set
  rw [View.set_slice_whole]
  have e : (win0_2.rect t0_0).emb i = i := Rect.emb_eq_of_coords (win0_2.rect t0_0) i i fun a => by
    match a with
    | ⟨0, _⟩ => exact ((Nat.zero_add _).trans (Nat.one_mul _)).symm
    | ⟨1, _⟩ => exact ((Nat.zero_add _).trans (Nat.one_mul _)).symm
  rw [← Rect.map_emb_univ]
  exact Finset.mem_map.mpr ⟨i, Finset.mem_univ _, e⟩

/-- So at the end of the run the result array is its device's block of the whole result. -/
theorem final_out : finalA m ρ c (2 : Fin 3) = blockAt x a w1 w2 c := by
  unfold finalA
  refine (dats (F := Ideal) m ρ 0 c).arrAt_eq_of_cover (2 : Fin 3) (blockAt x a w1 w2 c) (fun t _ => ?_) cover_out
  rw [fin_N0 t]
  show (cfg0.win 2).cut (grid0.coords t0_0) ((dats m ρ 0 c).after 2 t0_0) = _
  rw [show (dats m ρ 0 c).after (2 : Fin 3) t0_0 = outAt m ρ c by dsimp only [dats], outAt_whole ρ h c]
  exact (whole_o (blockAt x a w1 w2 c)).symm ▸ rfl

end Whole

/-! ## The blocks of the whole arrays -/

/-- Where a device's rows lie among all rows, -/
theorem rows_idx {n : ℕ} (c : Dev nD)
    (h : Layout.TilesN ⟨2, ![1024, n]⟩ ⟨2, ![2048, n]⟩ fun b => Layout.cutSize [2, 2] ((![[0], []] : Fin 2 → List Nat) b))
    (hl) (i : Fin 1024) (k : Fin n) : h.idx (Layout.meshBlock [2, 2] ![[0], []] c hl) (ix2 i k) = ix2 (rowOf c i) k := by
  have hc := row_lt c
  funext b
  match b with
  | ⟨0, _⟩ => exact Fin.ext (by change (c.val / 2 % 2 * 1 + 0) * 1024 + i.val = 1024 * (c.val / 2) + i.val; omega)
  | ⟨1, _⟩ => exact Fin.ext (by change 0 * n + k.val = k.val; omega)

/-- and its experts among the four. -/
theorem experts_idx {p q : ℕ} (c : Dev nD)
    (h : Layout.TilesN ⟨3, ![2, p, q]⟩ ⟨3, ![4, p, q]⟩ fun b => Layout.cutSize [2, 2] ((![[0], [], []] : Fin 3 → List Nat) b))
    (hl) (e : Fin 2) (i : Fin p) (k : Fin q) : h.idx (Layout.meshBlock [2, 2] ![[0], [], []] c hl) (ix3 e i k) = ix3 (ex c e) i k := by
  have hc := row_lt c
  funext b
  match b with
  | ⟨0, _⟩ => exact Fin.ext (by change (c.val / 2 % 2 * 1 + 0) * 2 + e.val = 2 * (c.val / 2) + e.val; omega)
  | ⟨1, _⟩ => exact Fin.ext (by change 0 * p + i.val = i.val; omega)
  | ⟨2, _⟩ => exact Fin.ext (by change 0 * q + k.val = k.val; omega)

/-! ## The reference, and the claim -/

/-- The reference's run ends with the whole result. -/
theorem reference_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      ∀ c : Dev Cert.ReferenceIdeal.nD,
        r.2.mem (c.tc.loc Cert.ReferenceIdeal.main_v44)
            = result (m' (c.tc.loc Cert.ReferenceIdeal.main_arg0)) (m' (c.tc.loc Cert.ReferenceIdeal.main_arg1))
                (m' (c.tc.loc Cert.ReferenceIdeal.main_arg2)) (m' (c.tc.loc Cert.ReferenceIdeal.main_arg3))
          ∧ r.2.mem (c.tc.loc Cert.ReferenceIdeal.main_arg0) = m' (c.tc.loc Cert.ReferenceIdeal.main_arg0)
          ∧ r.2.mem (c.tc.loc Cert.ReferenceIdeal.main_arg1) = m' (c.tc.loc Cert.ReferenceIdeal.main_arg1)
          ∧ r.2.mem (c.tc.loc Cert.ReferenceIdeal.main_arg2) = m' (c.tc.loc Cert.ReferenceIdeal.main_arg2)
          ∧ r.2.mem (c.tc.loc Cert.ReferenceIdeal.main_arg3) = m' (c.tc.loc Cert.ReferenceIdeal.main_arg3)) := by
  refine (θ_run Cert.ReferenceIdeal.defs _ _).mono (fun r h c => ⟨(h c).1.trans ?_, (h c).2⟩) (Cert.ReferenceIdeal.Value.run (F := Ideal) m' g')
  generalize m' (c.tc.loc Cert.ReferenceIdeal.main_arg0) = x
  generalize m' (c.tc.loc Cert.ReferenceIdeal.main_arg1) = a
  generalize m' (c.tc.loc Cert.ReferenceIdeal.main_arg2) = w1
  generalize m' (c.tc.loc Cert.ReferenceIdeal.main_arg3) = w2
  funext p
  idx_vars p
  pointwise
  rfl

/-- Over the extended reals the exchange leaves the reference's result, cut as the arguments are. -/
theorem algebraic : Cert.algebraic_KernelIdeal_ReferenceIdeal := fun m g m' g' _ hag => by
  have h : Held (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) m :=
    ⟨fun c i k => (congrFun (hag c).1 (ix2 i k)).trans (congrArg _ (rows_idx c _ _ i k)),
      fun c i => (congrFun (hag c).2.1 (ix2 i 0)).trans (congrArg _ (rows_idx c _ _ i 0)),
      fun c e l j => (congrFun (hag c).2.2.1 (ix3 e l j)).trans (congrArg _ (experts_idx c _ _ e l j)),
      fun c e j k => (congrFun (hag c).2.2.2 (ix3 e j k)).trans (congrArg _ (experts_idx c _ _ e j k))⟩
  refine ⟨result _ _ _ _, ?_, (θ_run Cert.ReferenceIdeal.defs _ _).mono (fun _ hr => hr 0) (reference_run m' g')⟩
  refine (θ_run defs _ _).mono (fun _ hr c => ⟨((hr.1 c).1 (2 : Fin 3)).trans ((final_out g h c).trans ?_),
    ((hr.1 c).1 (0 : Fin 3)).trans (finalA_x m g c), ((hr.1 c).1 (1 : Fin 3)).trans (finalA_a m g c), (hr.1 c).2.1, (hr.1 c).2.2⟩) (run_main m g)
  funext y
  idx_vars y
  exact (congrArg _ (rows_idx c _ _ _ _)).symm

end Cert.Exchange

end
-- ==== Proof.lean ====
/- The five claims together: the programs run, the ideal program is the program read over the extended reals, and it
   computes what the reference computes. -/
module

public import proofs.«01_k».proof.Proof.Value
public import proofs.«01_k».proof.Proof.Gen.KernelIdeal

@[expose] public section

noncomputable section

namespace Cert.Proof

/-- Every claim, after the programs' stated facts. -/
theorem claim : Cert.Claim :=
  ⟨Cert.Kernel.Gen.facts, Cert.KernelIdeal.Gen.facts, Cert.ReferenceIdeal.Gen.facts,
    Cert.Exchange.frame_kernel, Cert.Exchange.frame_ideal, Cert.Exchange.frame_reference, trivial, Cert.Exchange.algebraic⟩

end Cert.Proof

end
